-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x32x128 : Shape := ⟨3, ![16384, 32, 128]⟩
abbrev S16384 : Shape := ⟨1, ![16384]⟩
abbrev S128x128 : Shape := ⟨2, ![128, 128]⟩
abbrev S128 : Shape := ⟨1, ![128]⟩
abbrev S32 : Shape := ⟨1, ![32]⟩
abbrev S1x32x1 : Shape := ⟨3, ![1, 32, 1]⟩
abbrev S16384x1x1 : Shape := ⟨3, ![16384, 1, 1]⟩
abbrev S16384x32x1 : Shape := ⟨3, ![16384, 32, 1]⟩
abbrev S_ : Shape := ⟨0, ![]⟩

class Facts : Prop where
  bcast_S32_S1x32x1_1 : S32.BroadcastsInDim S1x32x1 (![1] : Fin 1 → Fin S1x32x1.rank)
  bcast_S16384_S16384x1x1_0 : S16384.BroadcastsInDim S16384x1x1 (![0] : Fin 1 → Fin S16384x1x1.rank)
  bcast_S1x32x1_S16384x32x1_0_1_2 : S1x32x1.BroadcastsInDim S16384x32x1 (![0, 1, 2] : Fin 3 → Fin S16384x32x1.rank)
  bcast_S16384x1x1_S16384x32x1_0_1_2 : S16384x1x1.BroadcastsInDim S16384x32x1 (![0, 1, 2] : Fin 3 → Fin S16384x32x1.rank)
  bcast_S_S16384x32x128 : S_.BroadcastsInDim S16384x32x128 (![] : Fin 0 → Fin S16384x32x128.rank)
  bcast_S16384x32x1_S16384x32x128_0_1_2 : S16384x32x1.BroadcastsInDim S16384x32x128 (![0, 1, 2] : Fin 3 → Fin S16384x32x128.rank)
  reducesTo_S16384x32x128_S_d0_1_2 : S16384x32x128.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128 .f32) (main_arg4 : FVec F S128 .f32) (main_arg5 : FVec F S128 .f32) (main_v15 : IVec S_ 1) (main_v18 : IVec S128x128 1) : IVec S_ 1 :=
  let main_c_3 : IVec S_ 1 := constantI S_ 1 1#1
  let main_v19 : IVec S_ 1 := (fun x v => Host.reduce IntOp.andi x v reducesTo_S128x128_S_d0_1 h_S_) main_v18 main_c_3
  let main_v20 : IVec S_ 1 := andi main_v15 main_v19
  let main_v21 : FVec F S128 .f32 := Host.absf main_arg3
  let main_cst_4 : FVec F S_ .f32 := constant S_ .f32 0x7F800000#32
  let main_v22 : FVec F S128 .f32 := broadcastInDim S128 ![] bcast_S_S128 main_cst_4
  let main_v23 : IVec S128 1 := cmpf .olt main_v21 main_v22
  let main_c_5 : IVec S_ 1 := constantI S_ 1 1#1
  let main_v24 : IVec S_ 1 := (fun x v => Host.reduce IntOp.andi x v reducesTo_S128_S_d0 h_S_) main_v23 main_c_5
  let main_v25 : IVec S_ 1 := andi main_v20 main_v24
  let main_v26 : FVec F S128 .f32 := Host.absf main_arg4
  let main_cst_6 : FVec F S_ .f32 := constant S_ .f32 0x7F800000#32
  let main_v27 : FVec F S128 .f32 := broadcastInDim S128 ![] bcast_S_S128 main_cst_6
  let main_v28 : IVec S128 1 := cmpf .olt main_v26 main_v27
  let main_c_7 : IVec S_ 1 := constantI S_ 1 1#1
  let main_v29 : IVec S_ 1 := (fun x v => Host.reduce IntOp.andi x v reducesTo_S128_S_d0 h_S_) main_v28 main_c_7
  let main_v30 : IVec S_ 1 := andi main_v25 main_v29
  let main_v31 : FVec F S128 .f32 := Host.absf main_arg5
  let main_cst_8 : FVec F S_ .f32 := constant S_ .f32 0x7F800000#32
  let main_v32 : FVec F S128 .f32 := broadcastInDim S128 ![] bcast_S_S128 main_cst_8
  let main_v33 : IVec S128 1 := cmpf .olt main_v31 main_v32
  let main_c_9 : IVec S_ 1 := constantI S_ 1 1#1
  let main_v34 : IVec S_ 1 := (fun x v => Host.reduce IntOp.andi x v reducesTo_S128_S_d0 h_S_) main_v33 main_c_9
  let main_v35 : IVec S_ 1 := andi main_v30 main_v34
  main_v35

def fn {F : FTy → Type} [FloatOps F] (main_arg0 : FVec F S16384x32x128 .f32) (main_arg1 : IVec S16384 32) (main_arg2 : FVec F S128x128 .f32) (main_arg3 : FVec F S128 .f32) (main_arg4 : FVec F S128 .f32) (main_arg5 : FVec F S128 .f32) : IVec S_ 1 :=
  let main_v0 : IVec S32 32 := iotaInDim S32 32 0
  let main_v1 : IVec S1x32x1 32 := broadcastInDim S1x32x1 ![1] bcast_S32_S1x32x1_1 main_v0
  let main_v2 : IVec S16384x1x1 32 := broadcastInDim S16384x1x1 ![0] bcast_S16384_S16384x1x1_0 main_arg1
  let main_v3 : IVec S16384x32x1 32 := broadcastInDim S16384x32x1 ![0, 1, 2] bcast_S1x32x1_S16384x32x1_0_1_2 main_v1
  let main_v4 : IVec S16384x32x1 32 := broadcastInDim S16384x32x1 ![0, 1, 2] bcast_S16384x1x1_S16384x32x1_0_1_2 main_v2
  let main_v5 : IVec S16384x32x1 1 := cmpi .sge main_v3 main_v4
  let main_v6 : FVec F S16384x32x128 .f32 := Host.absf main_arg0
  let main_cst : FVec F S_ .f32 := constant S_ .f32 0x7F800000#32
  let main_v7 : FVec F S16384x32x128 .f32 := broadcastInDim S16384x32x128 ![] bcast_S_S16384x32x128 main_cst
  let main_v8 : IVec S16384x32x128 1 := cmpf .olt main_v6 main_v7
  let main_v9 : IVec S16384x32x128 1 := broadcastInDim S16384x32x128 ![0, 1, 2] bcast_S16384x32x1_S16384x32x128_0_1_2 main_v5
  let main_v10 : IVec S16384x32x128 1 := ori main_v8 main_v9
  let main_c : IVec S_ 1 := constantI S_ 1 1#1
  let main_v11 : IVec S_ 1 := (fun x v => Host.reduce IntOp.andi x v reducesTo_S16384x32x128_S_d0_1_2 h_S_) main_v10 main_c
  let main_c_0 : IVec S_ 32 := constantI S_ 32 0#32
  let main_v12 : IVec S16384 32 := broadcastInDim S16384 ![] bcast_S_S16384 main_c_0
  let main_v13 : IVec S16384 1 := cmpi .sge main_arg1 main_v12
  let main_c_1 : IVec S_ 1 := constantI S_ 1 1#1
  let main_v14 : IVec S_ 1 := (fun x v => Host.reduce IntOp.andi x v reducesTo_S16384_S_d0 h_S_) main_v13 main_c_1
  let main_v15 : IVec S_ 1 := andi main_v11 main_v14
  let main_v16 : FVec F S128x128 .f32 := Host.absf main_arg2
  let main_cst_2 : FVec F S_ .f32 := constant S_ .f32 0x7F800000#32
  let main_v17 : FVec F S128x128 .f32 := broadcastInDim S128x128 ![] bcast_S_S128x128 main_cst_2
  let main_v18 : IVec S128x128 1 := cmpf .olt main_v16 main_v17
  fn_part1 (F := F) main_arg3 main_arg4 main_arg5 main_v15 main_v18
-- ==== Kernel.lean ====
abbrev S16384x32x128 : Shape := ⟨3, ![16384, 32, 128]⟩
abbrev S16384 : Shape := ⟨1, ![16384]⟩
abbrev S128x128 : Shape := ⟨2, ![128, 128]⟩
abbrev S128 : Shape := ⟨1, ![128]⟩
abbrev S2x8x1x1024 : Shape := ⟨4, ![2, 8, 1, 1024]⟩
abbrev S16384x1 : Shape := ⟨2, ![16384, 1]⟩
abbrev S1x128 : Shape := ⟨2, ![1, 128]⟩
abbrev S2x128x128 : Shape := ⟨3, ![2, 128, 128]⟩
abbrev S2x1x128 : Shape := ⟨3, ![2, 1, 128]⟩
abbrev S1x1x1x1024 : Shape := ⟨4, ![1, 1, 1, 1024]⟩
abbrev S1024x32x128 : Shape := ⟨3, ![1024, 32, 128]⟩
abbrev S1x128x128 : Shape := ⟨3, ![1, 128, 128]⟩
abbrev S1x1x128 : Shape := ⟨3, ![1, 1, 128]⟩
abbrev S1024 : Shape := ⟨1, ![1024]⟩
abbrev S1024x32 : Shape := ⟨2, ![1024, 32]⟩
abbrev S1024x1 : Shape := ⟨2, ![1024, 1]⟩
abbrev S1024x32x1 : Shape := ⟨3, ![1024, 32, 1]⟩
abbrev S32768x128 : Shape := ⟨2, ![32768, 128]⟩
abbrev S1 : Shape := ⟨1, ![1]⟩
abbrev S1x1x1 : Shape := ⟨3, ![1, 1, 1]⟩
abbrev S16384x128 : Shape := ⟨2, ![16384, 128]⟩
abbrev S2048x1 : Shape := ⟨2, ![2048, 1]⟩
abbrev S2048x32x128 : Shape := ⟨3, ![2048, 32, 128]⟩
abbrev S2048x128 : Shape := ⟨2, ![2048, 128]⟩
abbrev S65536x128 : Shape := ⟨2, ![65536, 128]⟩

abbrev nBuf : Space → Nat
  | .hbm => 18
  | .vmem => 27
  | .smem => 0
  | _ => 0

abbrev bufTy : (tb : Table) → Fin (tcTables nBuf tb) → BufTy
  | .hbm, ⟨0, _⟩ => ⟨S16384x32x128, .f32⟩
  | .hbm, ⟨1, _⟩ => ⟨S16384, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x8x1x1024, .i32⟩
  | .hbm, ⟨7, _⟩ => ⟨S128x128, .i32⟩
  | .hbm, ⟨8, _⟩ => ⟨S16384x1, .i32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S2x128x128, .f32⟩
  | .hbm, ⟨13, _⟩ => ⟨S2x1x128, .f32⟩
  | .hbm, ⟨14, _⟩ => ⟨S16384x32x128, .bf16⟩
  | .hbm, ⟨15, _⟩ => ⟨S128x128, .bf16⟩
  | .hbm, ⟨16, _⟩ => ⟨S1x128, .f32⟩
  | .hbm, ⟨17, _⟩ => ⟨S16384x128, .f32⟩
  | .local _ .vmem, ⟨0, _⟩ => ⟨S1x1x1x1024, .i32⟩
  | .local _ .vmem, ⟨1, _⟩ => ⟨S1x1x1x1024, .i32⟩
  | .local _ .vmem, ⟨2, _⟩ => ⟨S1024x32x128, .f32⟩
  | .local _ .vmem, ⟨3, _⟩ => ⟨S1024x32x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1024x32x128, .bf16⟩
  | .local _ .vmem, ⟨9, _⟩ => ⟨S1024x32x128, .bf16⟩
  | .local _ .vmem, ⟨10, _⟩ => ⟨S2x128x128, .f32⟩
  | .local _ .vmem, ⟨11, _⟩ => ⟨S2x1x128, .f32⟩
  | .local _ .vmem, ⟨12, _⟩ => ⟨S128x128, .i32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S1x128, .f32⟩
  | .local _ .vmem, ⟨19, _⟩ => ⟨S2048x1, .i32⟩
  | .local _ .vmem, ⟨20, _⟩ => ⟨S2048x1, .i32⟩
  | .local _ .vmem, ⟨21, _⟩ => ⟨S2048x32x128, .bf16⟩
  | .local _ .vmem, ⟨22, _⟩ => ⟨S2048x32x128, .bf16⟩
  | .local _ .vmem, ⟨23, _⟩ => ⟨S128x128, .bf16⟩
  | .local _ .vmem, ⟨24, _⟩ => ⟨S1x128, .f32⟩
  | .local _ .vmem, ⟨25, _⟩ => ⟨S2048x128, .f32⟩
  | .local _ .vmem, ⟨26, _⟩ => ⟨S2048x128, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg1 : BitVec 32 := BitVec.ofNat 32 (i 1).val
  let c0_i32_11 : BitVec 32 := 0#32
  let v22 : BitVec 1 := Scalar.cmpi .ne arg1 c0_i32_11
  let v23 : BitVec 32 := Scalar.extui v22
  let c0_i32_12 : BitVec 32 := 0#32
  let v24 : BitVec 1 := Scalar.cmpi .ne v23 c0_i32_12
  v24

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

abbrev stage1_0 : Fin 1 → Memref sig .tc .vmem S2x128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x32x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S16384x32x128 : Shape := ⟨3, ![16384, 32, 128]⟩
abbrev S16384 : Shape := ⟨1, ![16384]⟩
abbrev S128x128 : Shape := ⟨2, ![128, 128]⟩
abbrev S128 : Shape := ⟨1, ![128]⟩
abbrev S32 : Shape := ⟨1, ![32]⟩
abbrev S1x32 : Shape := ⟨2, ![1, 32]⟩
abbrev S16384x1 : Shape := ⟨2, ![16384, 1]⟩
abbrev S16384x32 : Shape := ⟨2, ![16384, 32]⟩
abbrev S1x1x128 : Shape := ⟨3, ![1, 1, 128]⟩
abbrev S_ : Shape := ⟨0, ![]⟩
abbrev S16384x32x1 : Shape := ⟨3, ![16384, 32, 1]⟩
abbrev S16384x128 : Shape := ⟨2, ![16384, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x32x128, .f32⟩
  | .hbm, ⟨1, _⟩ => ⟨S16384, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32, .i32⟩
  | .hbm, ⟨7, _⟩ => ⟨S1x32, .i32⟩
  | .hbm, ⟨8, _⟩ => ⟨S16384x1, .i32⟩
  | .hbm, ⟨9, _⟩ => ⟨S16384x32, .i32⟩
  | .hbm, ⟨10, _⟩ => ⟨S16384x32, .i32⟩
  | .hbm, ⟨11, _⟩ => ⟨S16384x32, .i1⟩
  | .hbm, ⟨12, _⟩ => ⟨S16384x32, .f32⟩
  | .hbm, ⟨13, _⟩ => ⟨S16384x32x128, .f32⟩
  | .hbm, ⟨14, _⟩ => ⟨S1x1x128, .f32⟩
  | .hbm, ⟨15, _⟩ => ⟨S16384x32x128, .f32⟩
  | .hbm, ⟨16, _⟩ => ⟨S16384x32x128, .f32⟩
  | .hbm, ⟨17, _⟩ => ⟨S_, .f32⟩
  | .hbm, ⟨18, _⟩ => ⟨S_, .f32⟩
  | .hbm, ⟨19, _⟩ => ⟨S16384x32x1, .f32⟩
  | .hbm, ⟨20, _⟩ => ⟨S16384x32x128, .f32⟩
  | .hbm, ⟨21, _⟩ => ⟨S16384x32x128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x1x128, .f32⟩
  | .hbm, ⟨27, _⟩ => ⟨S16384x32x128, .f32⟩
  | .hbm, ⟨28, _⟩ => ⟨S16384x32x128, .f32⟩
  | .hbm, ⟨29, _⟩ => ⟨S16384x32x128, .f32⟩
  | .hbm, ⟨30, _⟩ => ⟨S16384x32x128, .f32⟩
  | .hbm, ⟨31, _⟩ => ⟨S16384x32x128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S1x1x128, .f32⟩
  | .hbm, ⟨37, _⟩ => ⟨S16384x32x128, .f32⟩
  | .hbm, ⟨38, _⟩ => ⟨S16384x32x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x1x128, .f32⟩
  | .hbm, ⟨44, _⟩ => ⟨S16384x32x128, .f32⟩
  | .hbm, ⟨45, _⟩ => ⟨S16384x32x128, .f32⟩
  | .hbm, ⟨46, _⟩ => ⟨S1x1x128, .f32⟩
  | .hbm, ⟨47, _⟩ => ⟨S16384x32x128, .f32⟩
  | .hbm, ⟨48, _⟩ => ⟨S16384x32x128, .f32⟩
  | .hbm, ⟨49, _⟩ => ⟨S1x1x128, .f32⟩
  | .hbm, ⟨50, _⟩ => ⟨S16384x32x128, .f32⟩
  | .hbm, ⟨51, _⟩ => ⟨S16384x32x128, .f32⟩
  | .hbm, ⟨52, _⟩ => ⟨S_, .f32⟩
  | .hbm, ⟨53, _⟩ => ⟨S16384x32x128, .f32⟩
  | .hbm, ⟨54, _⟩ => ⟨S16384x32x128, .f32⟩
  | .hbm, ⟨55, _⟩ => ⟨S16384x32x128, .f32⟩
  | .hbm, ⟨56, _⟩ => ⟨S16384x32x128, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384x128, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S16384x1, .f32⟩
  | .hbm, ⟨65, _⟩ => ⟨S16384x128, .f32⟩
  | .hbm, ⟨66, _⟩ => ⟨S16384x128, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .i1⟩
  | .hbm, ⟨71, _⟩ => ⟨S_, .f32⟩
  | .hbm, ⟨72, _⟩ => ⟨S_, .f32⟩
  | .hbm, ⟨73, _⟩ => ⟨S16384x128, .i1⟩
  | .hbm, ⟨74, _⟩ => ⟨S16384x128, .f32⟩
  | .hbm, ⟨75, _⟩ => ⟨S16384x128, .f32⟩
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_cst : Ref sig .tc := ⟨.hbm, 52, rfl⟩
abbrev main_call0_v0 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Proof.Stats.lean ====
/-
  The statistics call (the first) of the kernel: what one grid point computes, and the call's proof data.

  The grid is two halves of eight points. A point takes 1024 voxels: their counts and their points. It stores the points
  with the padded ones zeroed, and adds their second moment and their sum to the half's running totals, which the half's
  first point starts.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Value
public import Idealize.ShloMosaic.Lib.Pipeline.TableIdle
public import Idealize.ShloMosaic.Lib.Pipeline.Kit

@[expose] public section

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (𝒱₀ : Variants) (V : Dev nD → Valuation τ sig (Elt F))

/-- A half's first point: the totals start at this block's second moment and sum. -/
theorem first_wp (c : Dev nD) (i : grid0.Coords) (hc : k0_cond1 i = 1#1) (hd : ¬ k0_cond2 i = 1#1)
    (a2 : Memref sig .tc .vmem S1x1x1x1024 .i32) (h2 : a2.IsWhole) (a3 : Memref sig .tc .vmem S1024x32x128 .f32) (h3 : a3.IsWhole)
    (a4 : Memref sig .tc .vmem S1x128x128 .f32) (h4 : a4.IsWhole) (a5 : Memref sig .tc .vmem S1x1x128 .f32) (h5 : a5.IsWhole)
    (a6 : Memref sig .tc .vmem S1024x32x128 .bf16) (h6 : a6.IsWhole)
    (n : Vec F S1x1x1x1024 .i32) (x : Vec F S1024x32x128 .f32)
    (K : PUnit → sProp 𝕄) :
    iprop(owns (c : Thread nD τ) a2 fullShare n ∗ owns (c : Thread nD τ) a3 fullShare x
        ∗ (∃ d, owns (c : Thread nD τ) a4 fullShare d) ∗ (∃ d, owns (c : Thread nD τ) a5 fullShare d) ∗ (∃ d, owns (c : Thread nD τ) a6 fullShare d)
        ∗ (iprop(owns (c : Thread nD τ) a2 fullShare n ∗ owns (c : Thread nD τ) a3 fullShare x
            ∗ owns (c : Thread nD τ) a4 fullShare (k0_pay6 x n) ∗ owns (c : Thread nD τ) a5 fullShare (k0_pay7 x n)
            ∗ owns (c : Thread nD τ) a6 fullShare (k0_pay3 x n)) -∗ K ⟨⟩))
      ⊢ wp frame (wpE (defs₀ (F := F)) 𝒱₀ c none) Set.univ (cc0__stats_kernel i a2 h2 a3 h3 a4 h4 a5 h5 a6 h6) K := by
  rw [cc0__stats_kernel_eq_skeleton]; unfold cc0__stats_kernel_skel
  simp only [dif_pos hc, dif_neg hd]
  unfold owns
  iintro ⟨⟨%f2, %e2, H2⟩, ⟨%f3, %e3, H3⟩, ⟨%_, %f4, -, H4⟩, ⟨%_, %f5, -, H5⟩, ⟨%_, %f6, -, H6⟩, Hk⟩
  subst e2 e3
  sl_exec
  sl_step
  iapply Hk
  isplitl [H2]; · iexists _; isplitr; · ipureintro; rfl
                  iexact H2
  isplitl [H3]; · iexists _; isplitr; · ipureintro; rfl
                  iexact H3
  isplitl [H4]
  · iexists _; isplitr
    swap; · iexact H4
    ipureintro
    refine (View.read_writes_full _ _ _ _ _).trans ?_
    sl_unfold_words
    congr 1 <;> exact View.readAt_full _ _ _
  isplitl [H5]
  · iexists _; isplitr
    swap; · iexact H5
    ipureintro
    refine (View.read_writes_full _ _ _ _ _).trans ?_
    sl_unfold_words
    congr 1 <;> exact View.readAt_full _ _ _
  iexists _; isplitr
  swap; · iexact H6
  ipureintro
  refine (View.read_writes_full _ _ _ _ _).trans ?_
  sl_unfold_words
  congr 1 <;> exact View.readAt_full _ _ _

/-- A half's later point: the block's second moment and sum are added to the totals found. -/
theorem later_wp (c : Dev nD) (i : grid0.Coords) (hd : ¬ k0_cond1 i = 1#1) (hc : k0_cond2 i = 1#1)
    (a2 : Memref sig .tc .vmem S1x1x1x1024 .i32) (h2 : a2.IsWhole) (a3 : Memref sig .tc .vmem S1024x32x128 .f32) (h3 : a3.IsWhole)
    (a4 : Memref sig .tc .vmem S1x128x128 .f32) (h4 : a4.IsWhole) (a5 : Memref sig .tc .vmem S1x1x128 .f32) (h5 : a5.IsWhole)
    (a6 : Memref sig .tc .vmem S1024x32x128 .bf16) (h6 : a6.IsWhole)
    (n : Vec F S1x1x1x1024 .i32) (x : Vec F S1024x32x128 .f32) (g : Vec F S1x128x128 .f32) (s : Vec F S1x1x128 .f32)
    (K : PUnit → sProp 𝕄) :
    iprop(owns (c : Thread nD τ) a2 fullShare n ∗ owns (c : Thread nD τ) a3 fullShare x
        ∗ owns (c : Thread nD τ) a4 fullShare g ∗ owns (c : Thread nD τ) a5 fullShare s ∗ (∃ d, owns (c : Thread nD τ) a6 fullShare d)
        ∗ (iprop(owns (c : Thread nD τ) a2 fullShare n ∗ owns (c : Thread nD τ) a3 fullShare x
            ∗ owns (c : Thread nD τ) a4 fullShare (k0_pay8 x n g) ∗ owns (c : Thread nD τ) a5 fullShare (k0_pay9 x n s)
            ∗ owns (c : Thread nD τ) a6 fullShare (k0_pay3 x n)) -∗ K ⟨⟩))
      ⊢ wp frame (wpE (defs₀ (F := F)) 𝒱₀ c none) Set.univ (cc0__stats_kernel i a2 h2 a3 h3 a4 h4 a5 h5 a6 h6) K := by
  rw [cc0__stats_kernel_eq_skeleton]; unfold cc0__stats_kernel_skel
  simp only [dif_pos hc, dif_neg hd]
  unfold owns
  iintro ⟨⟨%f2, %e2, H2⟩, ⟨%f3, %e3, H3⟩, ⟨%f4, %e4, H4⟩, ⟨%f5, %e5, H5⟩, ⟨%_, %f6, -, H6⟩, Hk⟩
  subst e2 e3 e4 e5
  sl_exec
  sl_step
  iapply Hk
  isplitl [H2]; · iexists _; isplitr; · ipureintro; rfl
                  iexact H2
  isplitl [H3]; · iexists _; isplitr; · ipureintro; rfl
                  iexact H3
  isplitl [H4]
  · iexists _; isplitr
    swap; · iexact H4
    ipureintro
    refine (View.read_writes_full _ _ _ _ _).trans ?_
    sl_unfold_words
    congr 1 <;> exact View.readAt_full _ _ _
  isplitl [H5]
  · iexists _; isplitr
    swap; · iexact H5
    ipureintro
    refine (View.read_writes_full _ _ _ _ _).trans ?_
    sl_unfold_words
    congr 1 <;> exact View.readAt_full _ _ _
  iexists _; isplitr
  swap; · iexact H6
  ipureintro
  refine (View.read_writes_full _ _ _ _ _).trans ?_
  sl_unfold_words
  congr 1 <;> exact View.readAt_full _ _ _

/-! ## The call's proof data -/

/-- The block of window `w` at point `t`, as the call finds the window's array. -/
def blkAt (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The running second moment after point `n`. -/
def moment (c : Dev nD) : (n : ℕ) → n < cfg0.N → Vec F S1x128x128 .f32
  | 0, h => k0_pay6 (blkAt V c 1 ⟨0, h⟩) (blkAt V c 0 ⟨0, h⟩)
  | n + 1, h =>
    if (n + 1) % 8 = 0 then k0_pay6 (blkAt V c 1 ⟨n + 1, h⟩) (blkAt V c 0 ⟨n + 1, h⟩)
    else k0_pay8 (blkAt V c 1 ⟨n + 1, h⟩) (blkAt V c 0 ⟨n + 1, h⟩) (moment c n (by omega))

/-- The running sum after point `n`. -/
def total (c : Dev nD) : (n : ℕ) → n < cfg0.N → Vec F S1x1x128 .f32
  | 0, h => k0_pay7 (blkAt V c 1 ⟨0, h⟩) (blkAt V c 0 ⟨0, h⟩)
  | n + 1, h =>
    if (n + 1) % 8 = 0 then k0_pay7 (blkAt V c 1 ⟨n + 1, h⟩) (blkAt V c 0 ⟨n + 1, h⟩)
    else k0_pay9 (blkAt V c 1 ⟨n + 1, h⟩) (blkAt V c 0 ⟨n + 1, h⟩) (total c n (by omega))

/-- Arrays as found; after a point the inputs keep their blocks, the totals are the running ones and the third output
    is the masked block; nothing is owed. -/
def dat (c : Dev nD) : Dat τ (Elt F) Unit ℕ (UR sig nD τ) ℕ cfg0 c where
  A w := V c (Proc.devRef .tc (Pipeline.arrRef spec0 w))
  after w t := match w with
    | ⟨0, _⟩ => blkAt V c 0 t
    | ⟨1, _⟩ => blkAt V c 1 t
    | ⟨2, _⟩ => moment V c t.val t.isLt
    | ⟨3, _⟩ => total V c t.val t.isLt
    | ⟨4, _⟩ => k0_pay3 (blkAt V c 1 t) (blkAt V c 0 t)
  Φ _ := Pipeline.ΦA spec0 c
  q _ := fullShare
  owed _ := 0

/-! An input window's staging buffer holds its block when the body starts. -/

theorem before0 (c : Dev nD) (t : Fin cfg0.N) (d) : (dat V c).before 0 t d = blkAt V c 0 t :=
  (dat V c).before_in_eq_fetched 0 rfl (fun _ => rfl) (fun _ _ _ => rfl) (fun _ => rfl) t d
theorem before1 (c : Dev nD) (t : Fin cfg0.N) (d) : (dat V c).before 1 t d = blkAt V c 1 t :=
  (dat V c).before_in_eq_fetched 1 rfl (fun _ => rfl) (fun _ _ _ => rfl) (fun _ => rfl) t d

/-! ## The two branches of the body -/

/-- A half's first point takes the starting branch only. -/
theorem first_cond : ∀ t : Fin cfg0.N, t.val % 8 = 0 → k0_cond1 (grid0.coords t) = 1#1 ∧ ¬ k0_cond2 (grid0.coords t) = 1#1 := by
  decide +kernel

/-- Every other point takes the adding branch only. -/
theorem later_cond : ∀ t : Fin cfg0.N, ¬ t.val % 8 = 0 → ¬ k0_cond1 (grid0.coords t) = 1#1 ∧ k0_cond2 (grid0.coords t) = 1#1 := by
  decide +kernel

/-- Neither running total is left alone at any point. -/
theorem live2 : ∀ t : Fin cfg0.N, cfg0.idle 2 (cfg0.grid.coords t) = false :=
  (by decide +kernel : ∀ t : Fin grid0.N, idle0 2 (grid0.coords t) = false)
theorem live3 : ∀ t : Fin cfg0.N, cfg0.idle 3 (cfg0.grid.coords t) = false :=
  (by decide +kernel : ∀ t : Fin grid0.N, idle0 3 (grid0.coords t) = false)

/-- The running totals are fresh exactly at the halves' first points. -/
theorem fresh2 (t : Fin cfg0.N) : cfg0.fresh 2 t.val = decide (t.val % 8 = 0) :=
  cfg0.fresh_tab 2 (fun n => decide (n % 8 = 0)) rfl (fun s => by
    rw [live2, Bool.false_and, Bool.or_false, Bool.eq_iff_iff, flush0_2, decide_eq_true_iff]; omega) t.val t.isLt.le
theorem fresh3 (t : Fin cfg0.N) : cfg0.fresh 3 t.val = decide (t.val % 8 = 0) :=
  cfg0.fresh_tab 3 (fun n => decide (n % 8 = 0)) rfl (fun s => by
    rw [live3, Bool.false_and, Bool.or_false, Bool.eq_iff_iff, flush0_3, decide_eq_true_iff]; omega) t.val t.isLt.le

/-- Before a half's later point the running totals are the previous point's. -/
theorem before2 (c : Dev nD) (t : Fin cfg0.N) (ht : ¬ t.val % 8 = 0) (d) :
    (dat V c).before 2 t d = moment V c (t.val - 1) (by omega) := by
  rw [(dat V c).before_out_traj 2 rfl (fun _ _ => rfl) (fun t _ h => by rw [live2] at h; cases h) t.val t rfl d, fresh2,
    decide_eq_false ht]
  rfl
theorem before3 (c : Dev nD) (t : Fin cfg0.N) (ht : ¬ t.val % 8 = 0) (d) :
    (dat V c).before 3 t d = total V c (t.val - 1) (by omega) := by
  rw [(dat V c).before_out_traj 3 rfl (fun _ _ => rfl) (fun t _ h => by rw [live3] at h; cases h) t.val t rfl d, fresh3,
    decide_eq_false ht]
  rfl

theorem moment_first (c : Dev nD) (t : Fin cfg0.N) (ht : t.val % 8 = 0) :
    moment V c t.val t.isLt = k0_pay6 (blkAt V c 1 t) (blkAt V c 0 t) := by
  obtain ⟨n, hn⟩ := t
  cases n with
  | zero => rfl
  | succ n => rw [moment, if_pos ht]
theorem total_first (c : Dev nD) (t : Fin cfg0.N) (ht : t.val % 8 = 0) :
    total V c t.val t.isLt = k0_pay7 (blkAt V c 1 t) (blkAt V c 0 t) := by
  obtain ⟨n, hn⟩ := t
  cases n with
  | zero => rfl
  | succ n => rw [total, if_pos ht]
theorem moment_later (c : Dev nD) (t : Fin cfg0.N) (ht : ¬ t.val % 8 = 0) :
    moment V c t.val t.isLt = k0_pay8 (blkAt V c 1 t) (blkAt V c 0 t) (moment V c (t.val - 1) (by omega)) := by
  obtain ⟨n, hn⟩ := t
  cases n with
  | zero => exact absurd rfl ht
  | succ n => rw [moment, if_neg ht]; rfl
theorem total_later (c : Dev nD) (t : Fin cfg0.N) (ht : ¬ t.val % 8 = 0) :
    total V c t.val t.isLt = k0_pay9 (blkAt V c 1 t) (blkAt V c 0 t) (total V c (t.val - 1) (by omega)) := by
  obtain ⟨n, hn⟩ := t
  cases n with
  | zero => exact absurd rfl ht
  | succ n => rw [total, if_neg ht]; rfl

/-- The body table's row for this call is its body at the point. -/
theorem table_row (t : Fin cfg0.N) : defs₀ (F := F) .tc cfg0.body (cfg0.bodyArgs t (cfg0.slots t)) = bodyAt0 t := by
  unfold defs₀; rw [Defs.onTc_tc]

/-- The body at a point, over the call's proof data. -/
theorem at_point (c : Dev nD) (t : Fin cfg0.N) :
    iprop((dat V c).Φ t.castSucc ∗ (dat V c).owesAt () t.castSucc
      ∗ (∃ d, owns (c : Thread nD τ) (win0_0.stage (cfg0.slots t 0)) fullShare ((dat V c).before 0 t d))
      ∗ (∃ d, owns (c : Thread nD τ) (win0_1.stage (cfg0.slots t 1)) fullShare ((dat V c).before 1 t d))
      ∗ (∃ d, owns (c : Thread nD τ) (win0_2.stage (cfg0.slots t 2)) fullShare ((dat V c).before 2 t d))
      ∗ (∃ d, owns (c : Thread nD τ) (win0_3.stage (cfg0.slots t 3)) fullShare ((dat V c).before 3 t d))
      ∗ (∃ d, owns (c : Thread nD τ) (win0_4.stage (cfg0.slots t 4)) fullShare ((dat V c).before 4 t d)))
    ⊢ wp frame (wpE (defs₀ (F := F)) 𝒱₀ c none) Set.univ (bodyAt0 t) (fun _ =>
      iprop((dat V c).Φ t.castSucc ∗ (dat V c).owesAt () t.castSucc
      ∗ owns (c : Thread nD τ) (win0_0.stage (cfg0.slots t 0)) fullShare (blkAt V c 0 t)
      ∗ owns (c : Thread nD τ) (win0_1.stage (cfg0.slots t 1)) fullShare (blkAt V c 1 t)
      ∗ owns (c : Thread nD τ) (win0_2.stage (cfg0.slots t 2)) fullShare (moment V c t.val t.isLt)
      ∗ owns (c : Thread nD τ) (win0_3.stage (cfg0.slots t 3)) fullShare (total V c t.val t.isLt)
      ∗ owns (c : Thread nD τ) (win0_4.stage (cfg0.slots t 4)) fullShare (k0_pay3 (blkAt V c 1 t) (blkAt V c 0 t)))) := by
  unfold bodyAt0
  by_cases ht : t.val % 8 = 0
  · rw [moment_first V c t ht, total_first V c t ht]
    simp only [before0, before1]
    iintro ⟨HΦ, Ho, ⟨%_, H0⟩, ⟨%_, H1⟩, ⟨%_, H2⟩, ⟨%_, H3⟩, ⟨%_, H4⟩⟩
    iapply (first_wp 𝒱₀ c (grid0.coords t) (first_cond t ht).1 (first_cond t ht).2 _ _ _ _ _ _ _ _ _ _ (blkAt V c 0 t) (blkAt V c 1 t))
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [moment_later V c t ht, total_later V c t ht]
    simp only [before0, before1, before2 V c t ht, before3 V c t ht]
    iintro ⟨HΦ, Ho, ⟨%_, H0⟩, ⟨%_, H1⟩, ⟨%_, H2⟩, ⟨%_, H3⟩, ⟨%_, H4⟩⟩
    iapply (later_wp 𝒱₀ c (grid0.coords t) (later_cond t ht).1 (later_cond t ht).2 _ _ _ _ _ _ _ _ _ _ (blkAt V c 0 t) (blkAt V c 1 t)
      (moment V c (t.val - 1) (by omega)) (total V c (t.val - 1) (by omega)))
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body is sound at every point. -/
theorem sound (c : Dev nD) : BodyObligation (dat V c) (defs₀ (F := F)) 𝒱₀ () Set.univ := fun t => by
  rw [bigSep_W0, bigSep_W0, table_row]
  have h2 : idle0 2 (grid0.coords t) = false := live2 t
  have h3 : idle0 3 (grid0.coords t) = false := live3 t
  simp only [h2, h3]
  exact triple_restated (at_point 𝒱₀ V c t) rfl .rfl fun _ => .rfl

end Cert.KernelIdeal.Stats

end
-- ==== Proof.Finalize.lean ====
/-
  The finalising call (the second) of the kernel: what it computes, and the call's proof data.

  It runs once, with no grid. From the two partial second moments and sums, the counts, the weight, the bias and the
  normalisation's scale and shift it stores the folded weight and the folded bias.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Value
public import Idealize.ShloMosaic.Lib.Pipeline.Kit

@[expose] public section

noncomputable section

namespace Cert.KernelIdeal.Finalize

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (𝒱₀ : Variants) (V : Dev nD → Valuation τ sig (Elt F))

theorem zero2 : (![0, 0] : Fin 2 → Nat) = fun _ => 0 := funext fun a => by fin_cases a <;> rfl

/-- Row block `k` of the two partial second moments. -/
abbrev half (x : Vec F S2x128x128 .f32) (k : Fin 2) : Vec F S1x128x128 .f32 :=
  match k with
  | 0 => View.ld (Val := Elt F) x (Rect.unit (s := S2x128x128) ![0, 0, 0] S1x128x128.size inb_S2x128x128_S1x128x128_0_0_0)
  | 1 => View.ld (Val := Elt F) x (Rect.unit (s := S2x128x128) ![1, 0, 0] S1x128x128.size inb_S2x128x128_S1x128x128_1_0_0)

/-- Row `k` of the two partial sums. -/
abbrev halfSum (x : Vec F S2x1x128 .f32) (k : Fin 2) : Vec F S1x1x128 .f32 :=
  match k with
  | 0 => View.ld (Val := Elt F) x (Rect.unit (s := S2x1x128) ![0, 0, 0] S1x1x128.size inb_S2x1x128_S1x1x128_0_0_0)
  | 1 => View.ld (Val := Elt F) x (Rect.unit (s := S2x1x128) ![1, 0, 0] S1x1x128.size inb_S2x1x128_S1x1x128_1_0_0)

/-- The variance numerator: the diagonal of the weight's quadratic form in the centred second moment. -/
def spread (x0 : Vec F S2x128x128 .f32) (x1 : Vec F S2x1x128 .f32) (x2 : Vec F S128x128 .i32) (x3 : Vec F S128x128 .f32) : FVec F S128 .f32 :=
  k1_pay8 (half x0 0) (half x0 1) (halfSum x1 0) (halfSum x1 1) x3 x2

/-- The folded weight the call stores. -/
def weight (x0 : Vec F S2x128x128 .f32) (x1 : Vec F S2x1x128 .f32) (x2 : Vec F S128x128 .i32) (x3 : Vec F S128x128 .f32)
    (x5 : Vec F S1x128 .f32) : Vec F S128x128 .bf16 :=
  k1_pay2 (k1_pay5 x2) (k1_pay6 x3) (spread x0 x1 x2 x3) x5

/-- The folded bias the call stores. -/
def bias (x0 : Vec F S2x128x128 .f32) (x1 : Vec F S2x1x128 .f32) (x2 : Vec F S128x128 .i32) (x3 : Vec F S128x128 .f32)
    (x4 : Vec F S1x128 .f32) (x5 : Vec F S1x128 .f32) (x6 : Vec F S1x128 .f32) : Vec F S1x128 .f32 :=
  k1_pay3 (k1_pay5 x2) (k1_pay7 (halfSum x1 0) (halfSum x1 1) x3 x2 x4) (spread x0 x1 x2 x3) x5 x4 x6

set_option maxHeartbeats 1000000 in
/-- The call's body on any whole staging buffers: the seven inputs stay, the outputs end at the folded weight and bias. -/
theorem body_wp (c : Dev nD)
    (a0 : Memref sig .tc .vmem S2x128x128 .f32) (h0 : a0.IsWhole)
    (a1 : Memref sig .tc .vmem S2x1x128 .f32) (h1 : a1.IsWhole)
    (a2 : Memref sig .tc .vmem S128x128 .i32) (h2 : a2.IsWhole)
    (a3 : Memref sig .tc .vmem S128x128 .f32) (h3 : a3.IsWhole)
    (a4 : Memref sig .tc .vmem S1x128 .f32) (h4 : a4.IsWhole)
    (a5 : Memref sig .tc .vmem S1x128 .f32) (h5 : a5.IsWhole)
    (a6 : Memref sig .tc .vmem S1x128 .f32) (h6 : a6.IsWhole)
    (a7 : Memref sig .tc .vmem S128x128 .bf16) (h7 : a7.IsWhole)
    (a8 : Memref sig .tc .vmem S1x128 .f32) (h8 : a8.IsWhole)
    (x0 : Vec F S2x128x128 .f32) (x1 : Vec F S2x1x128 .f32) (x2 : Vec F S128x128 .i32) (x3 : Vec F S128x128 .f32) (x4 : Vec F S1x128 .f32) (x5 : Vec F S1x128 .f32) (x6 : Vec F S1x128 .f32)
    (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare (weight x0 x1 x2 x3 x5) ∗ owns (c : Thread nD τ) a8 fullShare (bias x0 x1 x2 x3 x4 x5 x6)) -∗ K ⟨⟩))
      ⊢ wp frame (wpE (defs₀ (F := F)) 𝒱₀ c none) Set.univ (cc1__finalize_kernel a0 h0 a1 h1 a2 h2 a3 h3 a4 h4 a5 h5 a6 h6 a7 h7 a8 h8) K := by
  rw [cc1__finalize_kernel_eq_skeleton]; unfold cc1__finalize_kernel_skel
  rw [k1_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%_, %f7, -, H7⟩, ⟨%_, %f8, -, H8⟩, Hk⟩
  subst e0 e1 e2 e3 e4 e5 e6
  sl_exec
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (View.read_writes_full _ _ _ _ _).trans ?_
    sl_unfold_words
    simp only [View.readAt_eq_ld, View.ld_unit_zero (S := S128x128) zero2, View.ld_unit_zero (S := S1x128) zero2, weight, spread, half, halfSum]
  · iexists _; isplitr
    swap; · iexact H8
    ipureintro
    refine (View.read_writes_full _ _ _ _ _).trans ?_
    sl_unfold_words
    simp only [View.readAt_eq_ld, View.ld_unit_zero (S := S128x128) zero2, View.ld_unit_zero (S := S1x128) zero2, bias, spread, half, halfSum]

/-! ## The call's proof data -/

/-- The block of window `w` at point `t`, as the call finds the window's array. -/
def blkAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Arrays as found; after the point each input keeps its block and the outputs hold the folded weight and bias; nothing is owed. -/
def dat (c : Dev nD) : Dat τ (Elt F) Unit ℕ (UR sig nD τ) ℕ cfg1 c where
  A w := V c (Proc.devRef .tc (Pipeline.arrRef spec1 w))
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => (weight (blkAt V c 0 t) (blkAt V c 1 t) (blkAt V c 2 t) (blkAt V c 3 t) (blkAt V c 5 t))
    | ⟨8, _⟩ => (bias (blkAt V c 0 t) (blkAt V c 1 t) (blkAt V c 2 t) (blkAt V c 3 t) (blkAt V c 4 t) (blkAt V c 5 t) (blkAt V c 6 t))
  Φ _ := Pipeline.ΦA spec1 c
  q _ := fullShare
  owed _ := 0

/-! An input window's staging buffer holds its block when the body starts. -/

theorem before0 (c : Dev nD) (t : Fin cfg1.N) (d) : (dat V c).before 0 t d = blkAt V c 0 t :=
  (dat V c).before_in_eq_fetched 0 rfl (fun _ => rfl) (fun _ _ _ => rfl) (fun _ => rfl) t d
theorem before1 (c : Dev nD) (t : Fin cfg1.N) (d) : (dat V c).before 1 t d = blkAt V c 1 t :=
  (dat V c).before_in_eq_fetched 1 rfl (fun _ => rfl) (fun _ _ _ => rfl) (fun _ => rfl) t d
theorem before2 (c : Dev nD) (t : Fin cfg1.N) (d) : (dat V c).before 2 t d = blkAt V c 2 t :=
  (dat V c).before_in_eq_fetched 2 rfl (fun _ => rfl) (fun _ _ _ => rfl) (fun _ => rfl) t d
theorem before3 (c : Dev nD) (t : Fin cfg1.N) (d) : (dat V c).before 3 t d = blkAt V c 3 t :=
  (dat V c).before_in_eq_fetched 3 rfl (fun _ => rfl) (fun _ _ _ => rfl) (fun _ => rfl) t d
theorem before4 (c : Dev nD) (t : Fin cfg1.N) (d) : (dat V c).before 4 t d = blkAt V c 4 t :=
  (dat V c).before_in_eq_fetched 4 rfl (fun _ => rfl) (fun _ _ _ => rfl) (fun _ => rfl) t d
theorem before5 (c : Dev nD) (t : Fin cfg1.N) (d) : (dat V c).before 5 t d = blkAt V c 5 t :=
  (dat V c).before_in_eq_fetched 5 rfl (fun _ => rfl) (fun _ _ _ => rfl) (fun _ => rfl) t d
theorem before6 (c : Dev nD) (t : Fin cfg1.N) (d) : (dat V c).before 6 t d = blkAt V c 6 t :=
  (dat V c).before_in_eq_fetched 6 rfl (fun _ => rfl) (fun _ _ _ => rfl) (fun _ => rfl) t d

/-- The body table's row for this call is its body. -/
theorem table_row (t : Fin cfg1.N) : defs₀ (F := F) .tc cfg1.body (cfg1.bodyArgs t (cfg1.slots t)) = bodyAt1 t := by
  unfold defs₀; rw [Defs.onTc_tc]

/-- The body at the point, over the call's proof data. -/
theorem at_point (c : Dev nD) (t : Fin cfg1.N) :
    iprop((dat V c).Φ t.castSucc ∗ (dat V c).owesAt () t.castSucc
      ∗ (∃ d, owns (c : Thread nD τ) (win1_0.stage (cfg1.slots t 0)) fullShare ((dat V c).before 0 t d))
      ∗ (∃ d, owns (c : Thread nD τ) (win1_1.stage (cfg1.slots t 1)) fullShare ((dat V c).before 1 t d))
      ∗ (∃ d, owns (c : Thread nD τ) (win1_2.stage (cfg1.slots t 2)) fullShare ((dat V c).before 2 t d))
      ∗ (∃ d, owns (c : Thread nD τ) (win1_3.stage (cfg1.slots t 3)) fullShare ((dat V c).before 3 t d))
      ∗ (∃ d, owns (c : Thread nD τ) (win1_4.stage (cfg1.slots t 4)) fullShare ((dat V c).before 4 t d))
      ∗ (∃ d, owns (c : Thread nD τ) (win1_5.stage (cfg1.slots t 5)) fullShare ((dat V c).before 5 t d))
      ∗ (∃ d, owns (c : Thread nD τ) (win1_6.stage (cfg1.slots t 6)) fullShare ((dat V c).before 6 t d))
      ∗ (∃ d, owns (c : Thread nD τ) (win1_7.stage (cfg1.slots t 7)) fullShare ((dat V c).before 7 t d))
      ∗ (∃ d, owns (c : Thread nD τ) (win1_8.stage (cfg1.slots t 8)) fullShare ((dat V c).before 8 t d)))
    ⊢ wp frame (wpE (defs₀ (F := F)) 𝒱₀ c none) Set.univ (bodyAt1 t) (fun _ =>
      iprop((dat V c).Φ t.castSucc ∗ (dat V c).owesAt () t.castSucc
      ∗ owns (c : Thread nD τ) (win1_0.stage (cfg1.slots t 0)) fullShare (blkAt V c 0 t)
      ∗ owns (c : Thread nD τ) (win1_1.stage (cfg1.slots t 1)) fullShare (blkAt V c 1 t)
      ∗ owns (c : Thread nD τ) (win1_2.stage (cfg1.slots t 2)) fullShare (blkAt V c 2 t)
      ∗ owns (c : Thread nD τ) (win1_3.stage (cfg1.slots t 3)) fullShare (blkAt V c 3 t)
      ∗ owns (c : Thread nD τ) (win1_4.stage (cfg1.slots t 4)) fullShare (blkAt V c 4 t)
      ∗ owns (c : Thread nD τ) (win1_5.stage (cfg1.slots t 5)) fullShare (blkAt V c 5 t)
      ∗ owns (c : Thread nD τ) (win1_6.stage (cfg1.slots t 6)) fullShare (blkAt V c 6 t)
      ∗ owns (c : Thread nD τ) (win1_7.stage (cfg1.slots t 7)) fullShare (weight (blkAt V c 0 t) (blkAt V c 1 t) (blkAt V c 2 t) (blkAt V c 3 t) (blkAt V c 5 t))
      ∗ owns (c : Thread nD τ) (win1_8.stage (cfg1.slots t 8)) fullShare
          (bias (blkAt V c 0 t) (blkAt V c 1 t) (blkAt V c 2 t) (blkAt V c 3 t) (blkAt V c 4 t) (blkAt V c 5 t) (blkAt V c 6 t)))) := by
  unfold bodyAt1
  simp only [before0, before1, before2, before3, before4, before5, before6]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply (body_wp 𝒱₀ c _ _ _ _ _ _ _ _ _ _ _ _ _ _ _ _ _ _ (blkAt V c 0 t) (blkAt V c 1 t) (blkAt V c 2 t) (blkAt V c 3 t) (blkAt V c 4 t) (blkAt V c 5 t) (blkAt V c 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body is sound. -/
theorem sound (c : Dev nD) : BodyObligation (dat V c) (defs₀ (F := F)) 𝒱₀ () Set.univ := fun t => by
  rw [bigSep_W1, bigSep_W1, table_row]
  exact triple_restated (at_point 𝒱₀ V c t) rfl .rfl fun _ => .rfl

end Cert.KernelIdeal.Finalize

end
-- ==== Proof.Pool.lean ====
/-
  The pooling call (the third) of the kernel: what one grid point computes, and the call's proof data.

  A grid point takes a block of 2048 voxels: their counts, their masked points, the folded weight and the folded bias;
  it stores one row of pooled features per voxel. The block it stores is the printed payload of the four blocks it loads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

@[expose] public section

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (𝒱₀ : Variants) (V : Dev nD → Valuation τ sig (Elt F))

/-- One grid point on any whole staging buffers: the four inputs stay, the output ends at the payload of them. -/
theorem body_wp (c : Dev nD) (i : grid2.Coords)
    (a1 : Memref sig .tc .vmem S2048x1 .i32) (h1 : a1.IsWhole) (a2 : Memref sig .tc .vmem S2048x32x128 .bf16) (h2 : a2.IsWhole)
    (a3 : Memref sig .tc .vmem S128x128 .bf16) (h3 : a3.IsWhole) (a4 : Memref sig .tc .vmem S1x128 .f32) (h4 : a4.IsWhole)
    (a5 : Memref sig .tc .vmem S2048x128 .f32) (h5 : a5.IsWhole)
    (x1 : Vec F S2048x1 .i32) (x2 : Vec F S2048x32x128 .bf16) (x3 : Vec F S128x128 .bf16) (x4 : Vec F S1x128 .f32)
    (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare (k2_pay1 x2 x4 x3 x1)) -∗ K ⟨⟩))
      ⊢ wp frame (wpE (defs₀ (F := F)) 𝒱₀ c none) Set.univ (cc2__main_kernel i a1 h1 a2 h2 a3 h3 a4 h4 a5 h5) K := by
  rw [cc2__main_kernel_eq_skeleton]; unfold cc2__main_kernel_skel
  rw [k2_part1_eq_skeleton]
  unfold owns
  iintro ⟨⟨%f1, %e1, H1⟩, ⟨%f2, %e2, H2⟩, ⟨%f3, %e3, H3⟩, ⟨%f4, %e4, H4⟩, ⟨%d, %f5, -, H5⟩, Hk⟩
  subst e1 e2 e3 e4
  sl_exec
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr
  swap; · iexact H5
  ipureintro
  refine (View.read_writes_full _ _ _ _ _).trans ?_
  sl_unfold_words
  congr 1 <;> exact View.readAt_full _ _ _

/-! ## The call's proof data -/

/-- The block of window `w` at point `t`, as the call finds the window's array. -/
def blkAt (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- Arrays as found; after a point each input keeps its block and the output holds the payload; nothing is owed. -/
def dat (c : Dev nD) : Dat τ (Elt F) Unit ℕ (UR sig nD τ) ℕ cfg2 c where
  A w := V c (Proc.devRef .tc (Pipeline.arrRef spec2 w))
  after w t := match w with
    | ⟨0, _⟩ => blkAt V c 0 t
    | ⟨1, _⟩ => blkAt V c 1 t
    | ⟨2, _⟩ => blkAt V c 2 t
    | ⟨3, _⟩ => blkAt V c 3 t
    | ⟨4, _⟩ => k2_pay1 (blkAt V c 1 t) (blkAt V c 3 t) (blkAt V c 2 t) (blkAt V c 0 t)
  Φ _ := Pipeline.ΦA spec2 c
  q _ := fullShare
  owed _ := 0

/-! An input window's staging buffer holds its block when the body starts, whether this point fetched it or an earlier one. -/

theorem before0 (c : Dev nD) (t : Fin cfg2.N) (d) : (dat V c).before 0 t d = blkAt V c 0 t :=
  (dat V c).before_in_eq_fetched 0 rfl (fun _ => rfl) (fun _ _ _ => rfl) (fun _ => rfl) t d
theorem before1 (c : Dev nD) (t : Fin cfg2.N) (d) : (dat V c).before 1 t d = blkAt V c 1 t :=
  (dat V c).before_in_eq_fetched 1 rfl (fun _ => rfl) (fun _ _ _ => rfl) (fun _ => rfl) t d
theorem before2 (c : Dev nD) (t : Fin cfg2.N) (d) : (dat V c).before 2 t d = blkAt V c 2 t :=
  (dat V c).before_in_eq_fetched 2 rfl (fun _ => rfl) (fun _ _ _ => rfl) (fun _ => rfl) t d
theorem before3 (c : Dev nD) (t : Fin cfg2.N) (d) : (dat V c).before 3 t d = blkAt V c 3 t :=
  (dat V c).before_in_eq_fetched 3 rfl (fun _ => rfl) (fun _ _ _ => rfl) (fun _ => rfl) t d

/-- The body table's row for this call is its body at the point. -/
theorem table_row (t : Fin cfg2.N) : defs₀ (F := F) .tc cfg2.body (cfg2.bodyArgs t (cfg2.slots t)) = bodyAt2 t := by
  unfold defs₀; rw [Defs.onTc_tc]

/-- The body at a point, over the call's proof data. -/
theorem at_point (c : Dev nD) (t : Fin cfg2.N) :
    iprop((dat V c).Φ t.castSucc ∗ (dat V c).owesAt () t.castSucc
      ∗ (∃ d, owns (c : Thread nD τ) (win2_0.stage (cfg2.slots t 0)) fullShare ((dat V c).before 0 t d))
      ∗ (∃ d, owns (c : Thread nD τ) (win2_1.stage (cfg2.slots t 1)) fullShare ((dat V c).before 1 t d))
      ∗ (∃ d, owns (c : Thread nD τ) (win2_2.stage (cfg2.slots t 2)) fullShare ((dat V c).before 2 t d))
      ∗ (∃ d, owns (c : Thread nD τ) (win2_3.stage (cfg2.slots t 3)) fullShare ((dat V c).before 3 t d))
      ∗ (∃ d, owns (c : Thread nD τ) (win2_4.stage (cfg2.slots t 4)) fullShare ((dat V c).before 4 t d)))
    ⊢ wp frame (wpE (defs₀ (F := F)) 𝒱₀ c none) Set.univ (bodyAt2 t) (fun _ =>
      iprop((dat V c).Φ t.castSucc ∗ (dat V c).owesAt () t.castSucc
      ∗ owns (c : Thread nD τ) (win2_0.stage (cfg2.slots t 0)) fullShare (blkAt V c 0 t)
      ∗ owns (c : Thread nD τ) (win2_1.stage (cfg2.slots t 1)) fullShare (blkAt V c 1 t)
      ∗ owns (c : Thread nD τ) (win2_2.stage (cfg2.slots t 2)) fullShare (blkAt V c 2 t)
      ∗ owns (c : Thread nD τ) (win2_3.stage (cfg2.slots t 3)) fullShare (blkAt V c 3 t)
      ∗ owns (c : Thread nD τ) (win2_4.stage (cfg2.slots t 4)) fullShare
          (k2_pay1 (blkAt V c 1 t) (blkAt V c 3 t) (blkAt V c 2 t) (blkAt V c 0 t)))) := by
  unfold bodyAt2
  simp only [before0, before1, before2, before3]
  iintro ⟨HΦ, Ho, ⟨%_, H0⟩, ⟨%_, H1⟩, ⟨%_, H2⟩, ⟨%_, H3⟩, ⟨%_, H4⟩⟩
  iapply (body_wp 𝒱₀ c (grid2.coords t) _ _ _ _ _ _ _ _ _ _ (blkAt V c 0 t) (blkAt V c 1 t) (blkAt V c 2 t) (blkAt V c 3 t))
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body is sound at every point. -/
theorem sound (c : Dev nD) : BodyObligation (dat V c) (defs₀ (F := F)) 𝒱₀ () Set.univ := fun t => by
  rw [bigSep_W2, bigSep_W2, table_row]
  exact triple_restated (at_point 𝒱₀ V c t) rfl .rfl fun _ => .rfl

end Cert.KernelIdeal.Pool

end
-- ==== Proof.Run.lean ====
/-
  The whole program run: the reshapes on the host, then the three calls, each entered from the buffers as the one before
  left them. Every weakly fair execution ends with the arguments as launched, the result as the pooling call left it,
  and every counter at zero.
-/
module

public import proofs.«01_k».proof.Proof.Stats
public import proofs.«01_k».proof.Proof.Finalize
public import proofs.«01_k».proof.Proof.Pool
public import proofs.«01_k».proof.Proof.Gen.KernelIdeal.Regions
public import Idealize.ShloMosaic.Lib.Pipeline.RegionArraysS
public import Idealize.ShloMosaic.Lib.StableHlo.RunHlo

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (𝒱₀ : Variants)

/-! ## The buffers between the calls -/

/-- The buffers after the statistics call. -/
def afterStats (c : Dev nD) : Valuation τ sig (Elt F) := Pipeline.afterRegion (Stats.dat (V1 m) c) (V1 m c)
/-- The buffers after the finalising call. -/
def afterFinalize (c : Dev nD) : Valuation τ sig (Elt F) := Pipeline.afterRegion (Finalize.dat (afterStats m) c) (afterStats m c)
/-- The buffers after the pooling call. -/
def afterPool (c : Dev nD) : Valuation τ sig (Elt F) := Pipeline.afterRegion (Pool.dat (afterFinalize m) c) (afterFinalize m c)

/-- The three calls' proof data. -/
def dats : (p : Fin 3) → (c : Dev nD) → Dat τ (Elt F) Unit ℕ (UR sig nD τ) ℕ (cfgs p) c
  | 0 => Stats.dat (V1 m)
  | 1 => Finalize.dat (afterStats m)
  | 2 => Pool.dat (afterFinalize m)

/-- A buffer that is no output array of the calls ends as the host left it. -/
theorem kept (c : Dev nD) (r : Ref sig .tc) (h0 : ∀ w, Pipeline.arrRef spec0 w = r → (cfg0.win w).isOut = false)
    (h1 : ∀ w, Pipeline.arrRef spec1 w = r → (cfg1.win w).isOut = false)
    (h2 : ∀ w, Pipeline.arrRef spec2 w = r → (cfg2.win w).isOut = false) (hr : r ∉ hostOps0_W) :
    afterPool m c r = m ((c : Thread nD τ).loc r) :=
  (Pipeline.afterRegion_keeps _ _ launch2.win.arr_inj (fun _ => rfl) r h2).trans <|
    (Pipeline.afterRegion_keeps _ _ launch1.win.arr_inj (fun _ => rfl) r h1).trans <|
      (Pipeline.afterRegion_keeps _ _ launch0.win.arr_inj (fun _ => rfl) r h0).trans <| (V1_of m c r hr).trans rfl

/-! ## The calls' records -/

/-- What rides beside the buffers: the core owing nothing, and the generator register. -/
abbrev Ride (c : Dev nD) : sProp 𝕄 :=
  iprop((∃ Wd, owes (c : Thread nD τ) (0 : CellTallies nD τ sig Unit) Wd) ∗ (∃ r, prngReg c r) ∗ emp)

/-- One level for every counter of the core, none elsewhere. -/
abbrev lev : GSem nD τ sig → Finset Unit := fun g => if g.1.2 = .tc then {()} else ∅

theorem cut (p : Fin 3) : Pipeline.LevelCut (pcfgs (F := F)) adm () lev (fun _ _ => (0 : ℕ)) p (fun _ => 0) (fun _ => 0) where
  hι c w s := by simp [lev]
  hιb c w s := le_refl _
  hD c g i h := absurd h (lt_irrefl _)

def reg0 : RegionSeg (pcfgs (F := F)) adm (dats m) () defs₀ 𝒱₀ lev (fun _ _ => (0 : ℕ)) 0 :=
  RegionSeg.ofHeldIn (pcfgs (F := F)) adm (dats m) () defs₀ 𝒱₀ lev (fun _ _ => (0 : ℕ)) 0 (fun _ => 0) (Pipeline.ucRefs τ sig)
    (fun c => iprop(∃ r, prngReg c r)) (fun c => iprop(∃ r, prngReg c r)) launch0.toP rfl
    (fun c => (Stats.sound 𝒱₀ (V1 m) c).loose) (fun _ _ => rfl) (fun _ => rfl) (fun c => Dat.share_full _ fun _ => rfl) (fun _ => .rfl) (fun _ => .rfl)
    (fun _ => 0) (cut 0) (fun _ => iprop(emp)) (V1 m) (fun _ _ => rfl)

def reg1 : RegionSeg (pcfgs (F := F)) adm (dats m) () defs₀ 𝒱₀ lev (fun _ _ => (0 : ℕ)) 1 :=
  RegionSeg.ofHeldIn (pcfgs (F := F)) adm (dats m) () defs₀ 𝒱₀ lev (fun _ _ => (0 : ℕ)) 1 (fun _ => 0) (Pipeline.ucRefs τ sig)
    (fun c => iprop(∃ r, prngReg c r)) (fun c => iprop(∃ r, prngReg c r)) launch1.toP rfl
    (fun c => (Finalize.sound 𝒱₀ (afterStats m) c).loose) (fun _ _ => rfl) (fun _ => rfl) (fun c => Dat.share_full _ fun _ => rfl) (fun _ => .rfl) (fun _ => .rfl)
    (fun _ => 0) (cut 1) (fun _ => iprop(emp)) (afterStats m) (fun _ _ => rfl)

def reg2 : RegionSeg (pcfgs (F := F)) adm (dats m) () defs₀ 𝒱₀ lev (fun _ _ => (0 : ℕ)) 2 :=
  RegionSeg.ofHeldIn (pcfgs (F := F)) adm (dats m) () defs₀ 𝒱₀ lev (fun _ _ => (0 : ℕ)) 2 (fun _ => 0) (Pipeline.ucRefs τ sig)
    (fun c => iprop(∃ r, prngReg c r)) (fun c => iprop(∃ r, prngReg c r)) launch2.toP rfl
    (fun c => (Pool.sound 𝒱₀ (afterFinalize m) c).loose) (fun _ _ => rfl) (fun _ => rfl) (fun c => Dat.share_full _ fun _ => rfl) (fun _ => .rfl) (fun _ => .rfl)
    (fun _ => 0) (cut 2) (fun _ => iprop(emp)) (afterFinalize m) (fun _ _ => rfl)

theorem unscoped : ∀ (p : Fin 3) (w : Fin (cfgs p).W), (Pipeline.arrRef (cfgs p).spec w).isScoped = false := by decide

/-- Every window's array is an unscoped buffer. -/
theorem arr_mem (p : Fin 3) : Pipeline.arrRefs (τ := τ) (pcfgs (F := F) p).spec ⊆ Pipeline.ucRefs τ sig := by
  intro b hb
  obtain ⟨r, hr, rfl⟩ := Finset.mem_map.mp hb
  obtain ⟨w, -, rfl⟩ := Finset.mem_image.mp hr
  exact Pipeline.devRef_mem_ucRefs (unscoped p w)

/-! Each call is entered from the buffers the one before left. -/

theorem pre0 (c : Dev nD) : iprop(StableHlo.held (c : Thread nD τ) (Pipeline.ucRefs τ sig) (V1 m c) ∗ Ride c) ⊢ (reg0 m 𝒱₀).pre c :=
  RegionSeg.ofHeldIn_pre (pcs := pcfgs (F := F)) (a := adm) (pdats := dats m) (ι := ()) (defs₀ := defs₀) (𝒱₀ := 𝒱₀) (L := lev)
    (lv := fun _ _ => (0 : ℕ)) (p := 0) (D := fun _ => 0) (S := Pipeline.ucRefs τ sig) (X := fun c => iprop(∃ r, prngReg c r))
    (Y := fun c => iprop(∃ r, prngReg c r)) (R := fun _ => iprop(emp)) (W := V1 m) (arr_mem 0) c
theorem post0 (c : Dev nD) : (reg0 m 𝒱₀).post c ⊢ iprop(StableHlo.held (c : Thread nD τ) (Pipeline.ucRefs τ sig) (afterStats m c) ∗ Ride c) :=
  RegionSeg.ofHeldIn_post (arr_mem 0) c
theorem pre1 (c : Dev nD) : iprop(StableHlo.held (c : Thread nD τ) (Pipeline.ucRefs τ sig) (afterStats m c) ∗ Ride c) ⊢ (reg1 m 𝒱₀).pre c :=
  RegionSeg.ofHeldIn_pre (pcs := pcfgs (F := F)) (a := adm) (pdats := dats m) (ι := ()) (defs₀ := defs₀) (𝒱₀ := 𝒱₀) (L := lev)
    (lv := fun _ _ => (0 : ℕ)) (p := 1) (D := fun _ => 0) (S := Pipeline.ucRefs τ sig) (X := fun c => iprop(∃ r, prngReg c r))
    (Y := fun c => iprop(∃ r, prngReg c r)) (R := fun _ => iprop(emp)) (W := afterStats m) (arr_mem 1) c
theorem post1 (c : Dev nD) : (reg1 m 𝒱₀).post c ⊢ iprop(StableHlo.held (c : Thread nD τ) (Pipeline.ucRefs τ sig) (afterFinalize m c) ∗ Ride c) :=
  RegionSeg.ofHeldIn_post (arr_mem 1) c
theorem pre2 (c : Dev nD) : iprop(StableHlo.held (c : Thread nD τ) (Pipeline.ucRefs τ sig) (afterFinalize m c) ∗ Ride c) ⊢ (reg2 m 𝒱₀).pre c :=
  RegionSeg.ofHeldIn_pre (pcs := pcfgs (F := F)) (a := adm) (pdats := dats m) (ι := ()) (defs₀ := defs₀) (𝒱₀ := 𝒱₀) (L := lev)
    (lv := fun _ _ => (0 : ℕ)) (p := 2) (D := fun _ => 0) (S := Pipeline.ucRefs τ sig) (X := fun c => iprop(∃ r, prngReg c r))
    (Y := fun c => iprop(∃ r, prngReg c r)) (R := fun _ => iprop(emp)) (W := afterFinalize m) (arr_mem 2) c
theorem post2 (c : Dev nD) : (reg2 m 𝒱₀).post c ⊢ iprop(StableHlo.held (c : Thread nD τ) (Pipeline.ucRefs τ sig) (afterPool m c) ∗ Ride c) :=
  RegionSeg.ofHeldIn_post (arr_mem 2) c

/-! ## The run -/

theorem uc (r : Ref sig .tc) (h : r.isScoped = false) : (Proc.devRef .tc r : DevRef τ sig) ∈ Pipeline.ucRefs τ sig :=
  Pipeline.devRef_mem_ucRefs h

-- the launch lemma's implicit arguments are found by unifying its conclusion with this one, which unfolds plain
-- definitions in a metavariable's type
set_option backward.isDefEq.respectTransparency.types false in
/-- Every weakly fair execution ends with every unscoped buffer as the pooling call left it and every counter at zero. -/
theorem run_all (g : Dev nD → PrngReg) :
    θ_run defs (onTc (τ := τ) (main (F := F))) ⟨m, fun _ => 0, g⟩ (fun r =>
      (∀ (c : Dev nD), ∀ b ∈ Pipeline.ucRefs τ sig, r.2.mem ((c.tc : Thread nD τ).1, b) = afterPool m c b) ∧ r.2.sem = fun _ => 0) := by
  refine Pipeline.θ_run_regions_kit_dev_sems (pcfgs (F := F)) adm (dats m) () cellOf_inj emb₁ defs₀ Variants.none lev (fun _ _ => (0 : ℕ)) m g main
    (segs m Variants.none lev (fun _ _ => (0 : ℕ)) (fun _ => Ride) () (dats m) (reg0 m Variants.none) (reg1 m Variants.none) (reg2 m Variants.none))
    (fun c Q => by
      rewrite [main_chain c, Seg.run_eq_chain,
        show (segs m Variants.none lev (fun _ _ => (0 : ℕ)) (fun _ => Ride) () (dats m) (reg0 m Variants.none) (reg1 m Variants.none) (reg2 m Variants.none) c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide)
    (O₀ := 0) (hL := fun g h => if_neg h)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => StableHlo.held (c : Thread nD τ) (Pipeline.ucRefs τ sig) (afterPool m c))
    (hch := fun c => ⟨.rfl, pre0 m _ c, (post0 m _ c).trans (pre1 m _ c), (post1 m _ c).trans (pre2 m _ c),
      (post2 m _ c).trans (sep_mono .rfl (by iintro ⟨H, -, -⟩; iexact H))⟩)
    (hinit := by
      refine Pipeline.initEach lev (fun _ _ => (0 : ℕ)) fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = afterPool m c b)
    (hfin := fun c s' => by
      unfold StableHlo.held
      iintro ⟨Hh, HSI⟩
      ihave Hr := (pointsTo_read_all (Pipeline.ucRefs τ sig) (fun b => ((c.tc : Thread nD τ).1, b)) (afterPool m c) s') $$ [Hh HSI]
      · isplitl [Hh] <;> iassumption
      imodintro; iexact Hr)
    (hQ := fun _ h hz => ⟨h, funext fun g => hz g (.inr (regions_no_unscoped g.2))⟩)

/-- The run with the buffers the claims read: the result is the pooling call's output array, the arguments are kept. -/
theorem run (g : Dev nD → PrngReg) :
    θ_run defs (onTc (τ := τ) (main (F := F))) ⟨m, fun _ => 0, g⟩ (fun r => (∀ c : Dev nD,
      r.2.mem ((c.tc : Thread nD τ).loc main_v8) = afterPool m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run_all m g) (fun _ h => ⟨fun c => ⟨h.1 c _ (uc main_v8 rfl),
    (h.1 c _ (uc main_arg0 rfl)).trans (kept m c main_arg0 (by decide) (by decide) (by decide) (by decide)),
    (h.1 c _ (uc main_arg1 rfl)).trans (kept m c main_arg1 (by decide) (by decide) (by decide) (by decide)),
    (h.1 c _ (uc main_arg2 rfl)).trans (kept m c main_arg2 (by decide) (by decide) (by decide) (by decide)),
    (h.1 c _ (uc main_arg3 rfl)).trans (kept m c main_arg3 (by decide) (by decide) (by decide) (by decide)),
    (h.1 c _ (uc main_arg4 rfl)).trans (kept m c main_arg4 (by decide) (by decide) (by decide) (by decide)),
    (h.1 c _ (uc main_arg5 rfl)).trans (kept m c main_arg5 (by decide) (by decide) (by decide) (by decide))⟩, h.2⟩)

end Cert.KernelIdeal.Run

end
-- ==== Proof.Elem.lean ====
/-
  The elementwise operations of the two programs over the extended reals, read at an index.
-/
module

public import Idealize.ShloMosaic.Lib.Pointwise
public import Idealize.ShloMosaic.Lib.IdealHost

@[expose] public section

noncomputable section

namespace Cert.Elem

open Idealize.ShloMosaic

variable {s : Shape} {φ : FTy}

theorem add_at (a b : FVec Ideal s φ) (i : s.Idx) : addf a b i = (a i + b i : EReal) := Eq.trans rfl rfl
theorem sub_at (a b : FVec Ideal s φ) (i : s.Idx) : subf a b i = (a i - b i : EReal) := Eq.trans rfl rfl
theorem mul_at (a b : FVec Ideal s φ) (i : s.Idx) : mulf a b i = (a i * b i : EReal) := Eq.trans rfl rfl
theorem max_at (a b : FVec Ideal s φ) (i : s.Idx) : maximumf a b i = (max (a i) (b i) : EReal) := Eq.trans rfl rfl
theorem div_at (a b : FVec Ideal s φ) (i : s.Idx) : Host.divf a b i = Ideal.div (a i) (b i) := Eq.trans rfl rfl
theorem sqrt_at (a : FVec Ideal s φ) (i : s.Idx) : Host.sqrt a i = Ideal.sqrt (a i) := Eq.trans rfl rfl

/-- A constant zero. -/
theorem zero_at (i : s.Idx) : constant (F := Ideal) s .f32 0x00000000#32 i = (0 : EReal) := by pointwise
/-- A constant one. -/
theorem one_at (i : s.Idx) : constant (F := Ideal) s .f32 0x3F800000#32 i = (1 : EReal) := by pointwise

/-- The small constant under the root, as the programs print it. -/
def eps : EReal := Ideal.ofBits .f32 0x3727C5AC#32

theorem eps_at (i : s.Idx) : constant (F := Ideal) s .f32 0x3727C5AC#32 i = eps := Eq.trans rfl rfl

/-- It is a positive real number. -/
theorem eps_pos : ∃ e : ℝ, 0 < e ∧ eps = (e : EReal) := by
  refine ⟨(Ideal.ofBits .f32 0x3727C5AC#32).toReal, ?_, ?_⟩
  · simp [Ideal.ofBits, Ideal.ieee, -EReal.coe_mul]
  · unfold eps
    simp [Ideal.ofBits, Ideal.ieee, -EReal.coe_mul]

end Cert.Elem
-- ==== Proof.Counts.lean ====
/-
  The integer side of the two programs: which of a voxel's slots are valid, and how many, as real numbers.
-/
module

public import proofs.«01_k».proof.Proof.Elem

@[expose] public section

noncomputable section

namespace Cert.Counts

open Idealize.ShloMosaic

/-- One where slot `p` of a voxel of count `n` is valid, else zero. -/
def slot (n : BitVec 32) (p : Fin 32) : ℝ := if (p.val : ℤ) < n.toInt then 1 else 0

/-- The number of slots a voxel of count `n` fills. -/
def held (n : BitVec 32) : ℝ := ((min n.toInt 32 : ℤ) : ℝ)

theorem ofNat_toInt (p : Fin 32) : (BitVec.ofNat 32 p.val).toInt = p.val := by
  have := p.isLt
  rw [BitVec.toInt_ofNat', Int.bmod_eq_of_le] <;> omega

theorem less (n : BitVec 32) (p : Fin 32) :
    IntOp.cmpi .slt (BitVec.ofNat 32 p.val) n = if (p.val : ℤ) < n.toInt then 1#1 else 0#1 := by
  have e := ofNat_toInt p
  unfold IntOp.cmpi
  simp only [BitVec.slt, e]
  by_cases h : (p.val : ℤ) < n.toInt <;> simp [h]

/-- The kernel's mask. -/
theorem slot_wide (n : BitVec 32) (p : Fin 32) :
    FloatOps.sitofp (F := Ideal) .f32 (BitVec.setWidth 32 (IntOp.cmpi .slt (BitVec.ofNat 32 p.val) n)) = ((slot n p : ℝ) : EReal) := by
  rw [less]; unfold slot
  change (((BitVec.setWidth 32 _).toInt : ℝ) : EReal) = _
  by_cases h : (p.val : ℤ) < n.toInt <;> simp [h]

/-- The reference's mask. -/
theorem slot_bit (n : BitVec 32) (p : Fin 32) :
    FloatOps.uitofp (F := Ideal) .f32 (IntOp.cmpi .slt (BitVec.ofNat 32 p.val) n) = ((slot n p : ℝ) : EReal) := by
  rw [less]; unfold slot
  change (((BitVec.toNat _ : ℕ) : ℝ) : EReal) = _
  by_cases h : (p.val : ℤ) < n.toInt <;> simp [h]

theorem min_toInt (n : BitVec 32) : (IntOp.minsi n 32#32).toInt = min n.toInt 32 := by
  have e : (32#32 : BitVec 32).toInt = 32 := by decide
  unfold IntOp.minsi
  simp only [BitVec.sle, BitVec.slt, e]
  split <;> simp_all <;> omega

/-- The kernel's count. -/
theorem held_wide (n : BitVec 32) : FloatOps.sitofp (F := Ideal) .f32 (IntOp.minsi n 32#32) = ((held n : ℝ) : EReal) := by
  unfold held; rw [← min_toInt]; rfl

theorem slot_idem (n : BitVec 32) (p : Fin 32) : slot n p * slot n p = slot n p := by
  unfold slot; split <;> simp

theorem slot_nonneg (n : BitVec 32) (p : Fin 32) : 0 ≤ slot n p := by
  unfold slot; split <;> simp

theorem slot_cases (n : BitVec 32) (p : Fin 32) : slot n p = 0 ∨ slot n p = 1 := by
  unfold slot; split <;> simp

/-- The valid slots are as many as are filled. -/
theorem sum_slot (n : BitVec 32) (h : 0 ≤ n.toInt) : ∑ p : Fin 32, slot n p = held n := by
  unfold slot held
  obtain ⟨k, hk⟩ := Int.eq_ofNat_of_zero_le h
  rw [hk]
  have e : ∀ p : Fin 32, ((p.val : ℤ) < (k : ℤ)) ↔ p.val < k := fun p => by omega
  simp only [e, Finset.sum_boole]
  have c : (Finset.univ.filter fun p : Fin 32 => p.val < k).card = min k 32 := by
    rw [Fin.card_filter_val_lt, min_comm]
  rw [c]
  push_cast
  rfl

theorem held_nonneg (n : BitVec 32) (h : 0 ≤ n.toInt) : 0 ≤ held n := by
  rw [← sum_slot n h]; exact Finset.sum_nonneg fun p _ => slot_nonneg n p

/-- A voxel holds no point or at least one. -/
theorem held_zero_or (n : BitVec 32) (h : 0 ≤ n.toInt) : held n = 0 ∨ 1 ≤ held n := by
  unfold held
  by_cases e : n.toInt = 0
  · left; rw [e]; simp
  · right
    have : (1 : ℤ) ≤ min n.toInt 32 := by omega
    exact_mod_cast this

end Cert.Counts
-- ==== Proof.Pre.lean ====
/-
  The precondition read back: every valid point and the other float arguments are real, and no count is negative.
-/
module

public import proofs.«01_k».proof.Pre_finite_inputs
public import Idealize.ShloMosaic.Lib.ReduceAll
public import proofs.«01_k».proof.Proof.Counts

@[expose] public section

noncomputable section

namespace Cert.Pre

open Cert.Pre_finite_inputs
open Idealize.ShloMosaic

instance facts : Cert.Pre_finite_inputs.Facts where
  bcast_S32_S1x32x1_1 := by decide
  bcast_S16384_S16384x1x1_0 := by decide
  bcast_S1x32x1_S16384x32x1_0_1_2 := by decide
  bcast_S16384x1x1_S16384x32x1_0_1_2 := by decide
  bcast_S_S16384x32x128 := by decide
  bcast_S16384x32x1_S16384x32x128_0_1_2 := by decide
  reducesTo_S16384x32x128_S_d0_1_2 := by decide
  h_S_ := by decide
  bcast_S_S16384 := by decide
  reducesTo_S16384_S_d0 := by decide
  bcast_S_S128x128 := by decide
  reducesTo_S128x128_S_d0_1 := by decide
  bcast_S_S128 := by decide
  reducesTo_S128_S_d0 := by decide

/-- An extended real whose absolute value is below the infinite bit pattern is its real part. -/
theorem real_of_lt {y : EReal} (h : Ideal.cmp .olt (max y (-y)) (Ideal.ofBits .f32 0x7F800000#32) = 1#1) : y = ((y.toReal : ℝ) : EReal) := by
  have ht : Ideal.ofBits .f32 0x7F800000#32 = (⊤ : EReal) := by simp [Ideal.ofBits, Ideal.ieee]
  rw [ht] at h
  have hl : max y (-y) < (⊤ : EReal) := by
    by_contra hn
    simp [Ideal.cmp, hn] at h
  refine (EReal.coe_toReal ?_ ?_).symm
  · rintro rfl; simp at hl
  · rintro rfl; simp at hl

/-- `jnp.all(jnp.abs(a) < jnp.inf)`. -/
theorem all_real {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1) hr hu j = 1#1)
    (i : s.Idx) : a i = (((a i : EReal).toReal : ℝ) : EReal) :=
  real_of_lt (Host.reduce_andi_all _ _ _ _ j h i)

/-- A slot that the precondition leaves out is not valid. -/
theorem padded (n : BitVec 32) (p : Fin 32) (h : IntOp.cmpi .sge (BitVec.ofNat 32 p.val) n = 1#1) : Counts.slot n p = 0 := by
  have e := IntOp.cmpi_sge.1 h
  rw [Counts.ofNat_toInt] at e
  exact if_neg (not_lt.2 e)

/-- What the precondition says of the six arguments. -/
theorem read (a0 : FVec Ideal S16384x32x128 .f32) (a1 : IVec S16384 32) (a2 : FVec Ideal S128x128 .f32) (a3 a4 a5 : FVec Ideal S128 .f32)
    (h : fn (F := Ideal) a0 a1 a2 a3 a4 a5 = fun _ => 1#1) :
    (∀ v p k, Counts.slot (a1 (ix1 v)) p ≠ 0 → a0 (ix3 v p k) = (((a0 (ix3 v p k) : EReal).toReal : ℝ) : EReal)) ∧ (∀ i, 0 ≤ (a1 i).toInt) ∧ (∀ i, a2 i = (((a2 i : EReal).toReal : ℝ) : EReal))
      ∧ (∀ i, a3 i = (((a3 i : EReal).toReal : ℝ) : EReal)) ∧ (∀ i, a4 i = (((a4 i : EReal).toReal : ℝ) : EReal))
      ∧ (∀ i, a5 i = (((a5 i : EReal).toReal : ℝ) : EReal)) := by
  have e := congrFun h fun k => k.elim0
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have hx : ∀ v p k, Counts.slot (a1 (ix1 v)) p ≠ 0 → a0 (ix3 v p k) = (((a0 (ix3 v p k) : EReal).toReal : ℝ) : EReal) := fun v p k hs => by
    rcases IntOp.ori_eq_one.1 (Host.reduce_andi_all _ _ _ _ _ h0 (ix3 v p k)) with hr | hp
    · exact real_of_lt hr
    · exact absurd (padded _ _ ((by pointwise : _ = _).symm.trans hp)) hs
  exact ⟨hx, fun i => IntOp.cmpi_sge.1 (Host.reduce_andi_all _ _ _ _ _ h1 i), all_real _ _ _ _ _ h2, all_real _ _ _ _ _ h3,
    all_real _ _ _ _ _ h4, all_real _ _ _ _ _ h5⟩

end Cert.Pre
-- ==== Proof.Moments.lean ====
/-
  The batch statistics of a linear layer, over the reals: its mean and variance over the valid points, from the points'
  sum and second moment alone.
-/
module

public import proofs.«01_k».proof.Proof.Elem
public import Mathlib.Tactic.FieldSimp

@[expose] public section

noncomputable section

namespace Cert.Moments

section flat

variable {ι K : Type} [Fintype ι] [Fintype K] (x : ι → K → ℝ) (s : ι → ℝ) (w : K → ℝ) (b : ℝ)

theorem flat_first : ∑ k, (∑ i, x i k * s i) * w k = ∑ i, (∑ k, x i k * w k) * s i := by
  simp only [Finset.sum_mul]
  rw [Finset.sum_comm]
  exact Finset.sum_congr rfl fun i _ => Finset.sum_congr rfl fun k _ => by ring

theorem flat_second (hs : ∀ i, s i * s i = s i) :
    ∑ a, (∑ d, (∑ i, (x i a * s i) * (x i d * s i)) * w d) * w a = ∑ i, (∑ k, x i k * w k) * (∑ k, x i k * w k) * s i := by
  have e : ∀ i, (∑ k, x i k * w k) * (∑ k, x i k * w k) * s i = ∑ a, ∑ d, (x i a * s i) * (x i d * s i) * w d * w a := fun i => by
    rw [Finset.sum_mul_sum, Finset.sum_mul]
    refine Finset.sum_congr rfl fun a _ => ?_
    rw [Finset.sum_mul]
    refine Finset.sum_congr rfl fun d _ => ?_
    calc x i a * w a * (x i d * w d) * s i = x i a * w a * (x i d * w d) * (s i * s i) := by rw [hs]
      _ = _ := by ring
  simp only [e]
  rw [Finset.sum_comm]
  refine Finset.sum_congr rfl fun a _ => ?_
  rw [Finset.sum_comm, Finset.sum_mul]
  refine Finset.sum_congr rfl fun d _ => ?_
  rw [Finset.sum_mul, Finset.sum_mul]

theorem flat_spread (hs : ∀ i, s i * s i = s i) (r : ℝ) :
    ∑ a, (∑ d, ((∑ i, (x i a * s i) * (x i d * s i)) - (∑ i, x i a * s i) * (∑ i, x i d * s i) * r) * w d) * w a
      = (∑ i, (∑ k, x i k * w k) * (∑ k, x i k * w k) * s i)
        - (∑ i, (∑ k, x i k * w k) * s i) * (∑ i, (∑ k, x i k * w k) * s i) * r := by
  rw [← flat_second x s w hs, ← flat_first x s w, Finset.sum_mul_sum]
  simp only [sub_mul, Finset.sum_sub_distrib]
  congr 1
  rw [Finset.sum_mul]
  refine Finset.sum_congr rfl fun a _ => ?_
  rw [Finset.sum_mul, Finset.sum_mul]
  exact Finset.sum_congr rfl fun d _ => by ring

theorem flat_mean (hN : ∑ i, s i ≠ 0) :
    (∑ k, (∑ i, x i k * s i) * w k) * (∑ i, s i)⁻¹ + b = (∑ i, ((∑ k, x i k * w k) + b) * s i) / ∑ i, s i := by
  rw [flat_first]
  simp only [add_mul, Finset.sum_add_distrib, ← Finset.mul_sum]
  field_simp

/-- The weighted sum of squared deviations. -/
theorem flat_var (g : ι → ℝ) (hN : ∑ i, s i ≠ 0) (μ : ℝ) (hμ : μ = (∑ i, (g i + b) * s i) / ∑ i, s i) :
    ∑ i, ((g i + b - μ) * (g i + b - μ)) * s i = (∑ i, g i * g i * s i) - (∑ i, g i * s i) * (∑ i, g i * s i) * (∑ i, s i)⁻¹ := by
  have e : μ = (∑ i, g i * s i) * (∑ i, s i)⁻¹ + b := by
    rw [hμ]
    simp only [add_mul, Finset.sum_add_distrib, ← Finset.mul_sum]
    field_simp
  have h : ∀ i, ((g i + b - μ) * (g i + b - μ)) * s i
      = g i * g i * s i - 2 * (μ - b) * (g i * s i) + (μ - b) * (μ - b) * s i := fun i => by ring
  simp only [h, Finset.sum_add_distrib, Finset.sum_sub_distrib, ← Finset.mul_sum]
  rw [e]
  field_simp
  ring

end flat

/-! ## Over voxels and slots -/

variable {V P K : Type} [Fintype V] [Fintype P] [Fintype K] (x : V → P → K → ℝ) (s : V → P → ℝ) (w : K → ℝ) (b : ℝ)

/-- The number of valid slots. -/
def num : ℝ := ∑ v, ∑ p, s v p
/-- The linear layer. -/
def lin (v : V) (p : P) : ℝ := (∑ k, x v p k * w k) + b
/-- The mean over the valid slots. -/
def avg (f : V → P → ℝ) : ℝ := (∑ v, ∑ p, f v p * s v p) / num s
/-- The variance of the layer. -/
def var : ℝ := avg s fun v p => (lin x w b v p - avg s (lin x w b)) * (lin x w b v p - avg s (lin x w b))
/-- The sum and the second moment of the valid points. -/
def first (a : K) : ℝ := ∑ v, ∑ p, x v p a * s v p
def second (a d : K) : ℝ := ∑ v, ∑ p, (x v p a * s v p) * (x v p d * s v p)
/-- The variance times the number of valid slots, from the moments. -/
def spread : ℝ := ∑ a, (∑ d, (second x s a d - first x s a * first x s d * (num s)⁻¹) * w d) * w a

theorem mean_eq (hN : num s ≠ 0) : (∑ k, first x s k * w k) * (num s)⁻¹ + b = avg s (lin x w b) := by
  have h := flat_mean (fun i : V × P => x i.1 i.2) (fun i => s i.1 i.2) w b
  unfold avg first lin
  unfold num at hN ⊢
  simp only [← Fintype.sum_prod_type'] at hN ⊢
  exact h hN

theorem spread_eq (hs : ∀ v p, s v p * s v p = s v p) (hN : num s ≠ 0) : spread x s w * (num s)⁻¹ = var x s w b := by
  have h := flat_spread (fun i : V × P => x i.1 i.2) (fun i => s i.1 i.2) w (fun i => hs i.1 i.2)
  have h' := flat_var (fun i : V × P => s i.1 i.2) b (fun i => ∑ k, x i.1 i.2 k * w k)
  unfold var avg spread first second lin
  unfold num at hN ⊢
  simp only [← Fintype.sum_prod_type'] at hN ⊢
  rw [h, div_eq_mul_inv _ (∑ i : V × P, s i.1 i.2)]
  rw [h' hN _ rfl]

theorem var_nonneg (hs : ∀ v p, 0 ≤ s v p) : 0 ≤ var x s w b := by
  unfold var avg num
  exact div_nonneg (Finset.sum_nonneg fun v _ => Finset.sum_nonneg fun p _ => mul_nonneg (mul_self_nonneg _) (hs v p))
    (Finset.sum_nonneg fun v _ => Finset.sum_nonneg fun p _ => hs v p)

/-! ## One voxel's pooling -/

/-- The normalised, scaled, shifted, rectified layer. -/
def act (ga be ep : ℝ) (v : V) (p : P) : ℝ :=
  max ((lin x w b v p - avg s (lin x w b)) / Real.sqrt (var x s w b + ep) * ga + be) 0

/-- Pooling over all the slots with the scale and shift folded into the layer, then taking the padded slots off, is
    pooling over the valid slots. `c` is the number of slots. -/
theorem pool_eq (ga be ep : ℝ) (hs : ∀ v p, s v p = 0 ∨ s v p = 1) (v : V) (r q μ : ℝ)
    (hq : q = ga * (Real.sqrt (var x s w b + ep))⁻¹) (hμ : μ = avg s (lin x w b)) :
    (∑ p, max ((∑ k, (x v p k * s v p) * (w k * q)) + ((b - μ) * q + be)) 0) * r
        - ((((Finset.univ : Finset P).card : ℝ) - ∑ p, s v p) * r) * max ((b - μ) * q + be) 0
      = (∑ p, act x s w b ga be ep v p * s v p) * r := by
  have h : ∀ p, max ((∑ k, (x v p k * s v p) * (w k * q)) + ((b - μ) * q + be)) 0
      = act x s w b ga be ep v p * s v p + (1 - s v p) * max ((b - μ) * q + be) 0 := fun p => by
    rcases hs v p with e | e
    · rw [e]; simp
    · rw [e]
      have l : ∑ k, (x v p k * 1) * (w k * q) = (∑ k, x v p k * w k) * q := by
        rw [Finset.sum_mul]; exact Finset.sum_congr rfl fun k _ => by ring
      rw [l]
      unfold act
      rw [← hμ]
      unfold lin
      rw [hq, sub_self, zero_mul, add_zero, mul_one]
      congr 1
      rw [div_eq_mul_inv]
      ring
  simp only [h, Finset.sum_add_distrib, ← Finset.sum_mul, Finset.sum_sub_distrib, Finset.sum_const, nsmul_eq_mul, mul_one]
  ring

end Cert.Moments
-- ==== Proof.Lift.lean ====
/-
  Extended-real arithmetic at real arguments is real arithmetic.
-/
module

public import proofs.«01_k».proof.Proof.Moments

@[expose] public section

noncomputable section

namespace Cert.Lift

open Idealize.ShloMosaic

theorem sum_real {ι : Type} [Fintype ι] {f : ι → EReal} {g : ι → ℝ} (h : ∀ i, f i = ((g i : ℝ) : EReal)) :
    ∑ i, f i = ((∑ i, g i : ℝ) : EReal) := by
  rw [Finset.sum_congr rfl fun i _ => h i]
  generalize (Finset.univ : Finset ι) = t
  classical
  induction t using Finset.induction_on with
  | empty => simp
  | insert i t hi ih => rw [Finset.sum_insert hi, Finset.sum_insert hi, ih, EReal.coe_add]

theorem div_real (a b : ℝ) (h : b ≠ 0) : Ideal.div (a : EReal) (b : EReal) = ((a / b : ℝ) : EReal) := by
  rw [Ideal.div_coe h, ← EReal.coe_mul, mul_one_div]

theorem inv_real (b : ℝ) (h : b ≠ 0) : Ideal.div 1 (b : EReal) = ((b⁻¹ : ℝ) : EReal) := by
  rw [Ideal.div_coe h, one_mul, one_div]

theorem sqrt_real (a : ℝ) (h : 0 ≤ a) : Ideal.sqrt (a : EReal) = ((Real.sqrt a : ℝ) : EReal) := by
  rw [Ideal.sqrt_coe, if_neg (not_lt.2 h)]

theorem rsqrt_real (a : ℝ) (h : 0 < a) : Ideal.rsqrt (a : EReal) = (((Real.sqrt a)⁻¹ : ℝ) : EReal) := by
  rw [Ideal.rsqrt_coe, if_neg (not_lt.2 h.le), if_neg h.ne']

theorem max_real (a b : ℝ) : max (a : EReal) (b : EReal) = ((max a b : ℝ) : EReal) :=
  (EReal.coe_strictMono.monotone.map_max).symm

theorem max_zero (a : ℝ) : max (a : EReal) 0 = ((max a 0 : ℝ) : EReal) := max_real a 0

theorem max_one (a : ℝ) : max (a : EReal) 1 = ((max a 1 : ℝ) : EReal) := max_real a 1

/-- The number of slots of a voxel. -/
theorem slots : Ideal.ofBits .f32 0x42000000#32 = ((32 : ℝ) : EReal) := by
  simp [Ideal.ofBits, Ideal.ieee, -EReal.coe_mul]
  norm_num

/-- A product with a real factor: what it multiplies has to be real only where the factor is not zero. -/
theorem masked_real {y : EReal} {g t : ℝ} (h : t ≠ 0 → y = (g : EReal)) : y * (t : EReal) = ((g * t : ℝ) : EReal) := by
  by_cases e : t = 0
  · rw [e, mul_zero, EReal.coe_zero, mul_zero]
  · rw [h e, EReal.coe_mul]

end Cert.Lift
-- ==== Proof.PoolRead.lean ====
/-
  What one point of the pooling call computes, element by element.
-/
module

public import proofs.«01_k».proof.Proof.Pool
public import proofs.«01_k».proof.Proof.Counts

@[expose] public section

noncomputable section

namespace Cert.KernelIdeal.Pool

open Cert.KernelIdeal Cert.KernelIdeal.Gen
open Idealize.ShloMosaic

open Cert.Counts (held held_wide)

/-- The reciprocal the pooling call divides a voxel by: zero where the voxel is empty. -/
def recip (h : EReal) : EReal := if 0 < h then Ideal.div 1 (max h 1) else 0

theorem pooled_at (x : Vec Ideal S2048x32x128 .bf16) (b : Vec Ideal S1x128 .f32) (w : Vec Ideal S128x128 .bf16) (n : Vec Ideal S2048x1 .i32)
    (v : Fin 2048) (o : Fin 128) :
    k2_pay1 x b w n (ix2 v o) =
      (∑ p : Fin 32, max ((∑ k : Fin 128, x (ix3 v p k) * w (ix2 k o)) + b (ix2 0 o)) 0) * recip ((held (n (ix2 v 0)) : ℝ) : EReal)
        - ((Ideal.ofBits .f32 0x42000000#32 - ((held (n (ix2 v 0)) : ℝ) : EReal)) * recip ((held (n (ix2 v 0)) : ℝ) : EReal)) * max (b (ix2 0 o)) 0 := by
  rw [← held_wide]
  unfold k2_pay1 recip
  pointwise

end Cert.KernelIdeal.Pool
-- ==== Proof.FinalizeRead.lean ====
/-
  What the finalising call computes, element by element.
-/
module

public import proofs.«01_k».proof.Proof.Finalize
public import proofs.«01_k».proof.Proof.Counts

@[expose] public section

noncomputable section

namespace Cert.KernelIdeal.Finalize

open Cert.KernelIdeal Cert.KernelIdeal.Gen
open Idealize.ShloMosaic

open Cert.Counts (held held_wide)

/-- The reciprocal of the number of valid slots. -/
theorem inv_at (n : Vec Ideal S128x128 .i32) :
    k1_pay5 n = Ideal.div 1 (∑ x : Fin 128, ∑ y : Fin 128, ((held (n (ix2 x y)) : ℝ) : EReal)) := by
  simp only [← held_wide]
  unfold k1_pay5
  pointwise

theorem sum_at (a b : Vec Ideal S1x1x128 .f32) (o : Fin 128) :
    k1_pay4 a b (ix2 0 o) = a (ix3 0 0 o) + b (ix3 0 0 o) := by
  unfold k1_pay4
  pointwise

/-- The batch mean. -/
theorem mean_at (a b : Vec Ideal S1x1x128 .f32) (w : Vec Ideal S128x128 .f32) (n : Vec Ideal S128x128 .i32) (bi : Vec Ideal S1x128 .f32) (o : Fin 128) :
    k1_pay7 a b w n bi (ix2 0 o) = (∑ k : Fin 128, k1_pay4 a b (ix2 0 k) * w (ix2 o k)) * k1_pay5 n + bi (ix2 0 o) := by
  unfold k1_pay7 k1_pay6
  pointwise

/-- The batch variance times the number of valid slots. -/
theorem spread_at (g h : Vec Ideal S1x128x128 .f32) (a b : Vec Ideal S1x1x128 .f32) (w : Vec Ideal S128x128 .f32) (n : Vec Ideal S128x128 .i32) (o : Fin 128) :
    k1_pay8 g h a b w n (ix1 o) = ∑ x : Fin 128, (∑ y : Fin 128, (g (ix3 0 x y) + h (ix3 0 x y)
      - (∑ z : Fin 1, k1_pay4 a b (ix2 z x) * k1_pay4 a b (ix2 z y)) * k1_pay5 n) * w (ix2 o y)) * w (ix2 o x) := by
  unfold k1_pay8 k1_pay6
  pointwise

/-- The scale of an output channel. -/
theorem scale_at (i : Ideal .f32) (v : FVec Ideal S128 .f32) (ga : Vec Ideal S1x128 .f32) (o : Fin 128) :
    k1_pay1 i v ga (ix2 0 o) = ga (ix2 0 o) * Ideal.rsqrt (v (ix1 o) * i + Elem.eps) := by
  unfold k1_pay1 Elem.eps
  pointwise

theorem weight_at (i : Ideal .f32) (w : FVec Ideal S128x128 .f32) (v : FVec Ideal S128 .f32) (ga : Vec Ideal S1x128 .f32) (k o : Fin 128) :
    k1_pay2 i w v ga (ix2 k o) = w (ix2 k o) * k1_pay1 i v ga (ix2 0 o) := by
  unfold k1_pay2
  pointwise

theorem turn_at (w : Vec Ideal S128x128 .f32) (k o : Fin 128) : k1_pay6 w (ix2 k o) = w (ix2 o k) := by
  unfold k1_pay6
  pointwise

theorem bias_at (i : Ideal .f32) (mu : FVec Ideal S1x128 .f32) (v : FVec Ideal S128 .f32) (ga : Vec Ideal S1x128 .f32) (bi be : Vec Ideal S1x128 .f32) (o : Fin 128) :
    k1_pay3 i mu v ga bi be (ix2 0 o) = (bi (ix2 0 o) - mu (ix2 0 o)) * k1_pay1 i v ga (ix2 0 o) + be (ix2 0 o) := by
  unfold k1_pay3
  pointwise

theorem half_at (x : Vec Ideal S2x128x128 .f32) (k : Fin 2) (a b : Fin 128) : half x k (ix3 0 a b) = x (ix3 k a b) := by
  fin_cases k <;> (dsimp only [half]; pointwise)

theorem halfSum_at (x : Vec Ideal S2x1x128 .f32) (k : Fin 2) (b : Fin 128) : halfSum x k (ix3 0 0 b) = x (ix3 k 0 b) := by
  fin_cases k <;> (dsimp only [halfSum]; pointwise)

end Cert.KernelIdeal.Finalize
-- ==== Proof.StatsRead.lean ====
/-
  What one point of the statistics call computes, element by element.
-/
module

public import proofs.«01_k».proof.Proof.Stats
public import proofs.«01_k».proof.Proof.Counts

@[expose] public section

noncomputable section

namespace Cert.KernelIdeal.Stats

open Cert.KernelIdeal Cert.KernelIdeal.Gen
open Idealize.ShloMosaic

open Cert.Counts (slot slot_wide)

/-- The stored points: the padded slots are zero. -/
theorem masked_at (x : Vec Ideal S1024x32x128 .f32) (n : Vec Ideal S1x1x1x1024 .i32) (v : Fin 1024) (p : Fin 32) (k : Fin 128) :
    k0_pay3 x n (ix3 v p k) = x (ix3 v p k) * ((slot (n (ix4 0 0 0 v)) p : ℝ) : EReal) := by
  rw [← slot_wide]
  unfold k0_pay3 k0_pay2 k0_pay1
  pointwise

/-- The voxel of a row of the block laid out as rows, and its slot. -/
def vox (r : Fin 32768) : Fin 1024 := ⟨r.val / 32, by omega⟩
def pos (r : Fin 32768) : Fin 32 := ⟨r.val % 32, by omega⟩

theorem flat_at (x : Vec Ideal S1024x32x128 .f32) (n : Vec Ideal S1x1x1x1024 .i32) (r : Fin 32768) (k : Fin 128) :
    k0_pay1 x n (ix2 r k) = x (ix3 (vox r) (pos r) k) * ((slot (n (ix4 0 0 0 (vox r))) (pos r) : ℝ) : EReal) := by
  rw [← slot_wide]
  unfold k0_pay1
  pointwise
  rfl

theorem moment_at (x : Vec Ideal S1024x32x128 .f32) (n : Vec Ideal S1x1x1x1024 .i32) (a b : Fin 128) :
    k0_pay4 x n (ix2 a b) = ∑ r : Fin 32768, k0_pay1 x n (ix2 r a) * k0_pay1 x n (ix2 r b) := by
  unfold k0_pay4 k0_pay2
  pointwise

theorem total_at (x : Vec Ideal S1024x32x128 .f32) (n : Vec Ideal S1x1x1x1024 .i32) (k : Fin 128) :
    k0_pay5 x n (ix2 0 k) = ∑ r : Fin 32768, k0_pay1 x n (ix2 r k) := by
  unfold k0_pay5
  pointwise

theorem momentFirst_at (x : Vec Ideal S1024x32x128 .f32) (n : Vec Ideal S1x1x1x1024 .i32) (a b : Fin 128) :
    k0_pay6 x n (ix3 0 a b) = k0_pay4 x n (ix2 a b) := by
  unfold k0_pay6
  pointwise

theorem momentLater_at (x : Vec Ideal S1024x32x128 .f32) (n : Vec Ideal S1x1x1x1024 .i32) (g : Vec Ideal S1x128x128 .f32) (a b : Fin 128) :
    k0_pay8 x n g (ix3 0 a b) = g (ix3 0 a b) + k0_pay4 x n (ix2 a b) := by
  unfold k0_pay8
  pointwise

theorem totalFirst_at (x : Vec Ideal S1024x32x128 .f32) (n : Vec Ideal S1x1x1x1024 .i32) (b : Fin 128) :
    k0_pay7 x n (ix3 0 0 b) = k0_pay5 x n (ix2 0 b) := by
  unfold k0_pay7
  pointwise

theorem totalLater_at (x : Vec Ideal S1024x32x128 .f32) (n : Vec Ideal S1x1x1x1024 .i32) (g : Vec Ideal S1x1x128 .f32) (b : Fin 128) :
    k0_pay9 x n g (ix3 0 0 b) = g (ix3 0 0 b) + k0_pay5 x n (ix2 0 b) := by
  unfold k0_pay9
  pointwise

end Cert.KernelIdeal.Stats
-- ==== Proof.Entry.lean ====
/-
  What the kernel's three calls find in the operands the host prepares: the counts, laid out three ways, and the bias,
  the scale and the shift as rows, read at the arguments.
-/
module

public import proofs.«01_k».proof.Proof.Run
public import proofs.«01_k».proof.Proof.Counts
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Entry

open Cert.KernelIdeal Cert.KernelIdeal.Gen
open Idealize.ShloMosaic Idealize.ShloMosaic.TcCoe

variable (m : (ℓ : Loc nD τ sig) → Buf (Elt Ideal) ℓ) (c : Dev nD)

/-- The arguments: points, counts, weight, bias, scale, shift. -/
def x : Vec Ideal S16384x32x128 .f32 := m ((c : Thread nD τ).loc main_arg0)
def n : Vec Ideal S16384 .i32 := m ((c : Thread nD τ).loc main_arg1)
def W : Vec Ideal S128x128 .f32 := m ((c : Thread nD τ).loc main_arg2)
def b : Vec Ideal S128 .f32 := m ((c : Thread nD τ).loc main_arg3)
def ga : Vec Ideal S128 .f32 := m ((c : Thread nD τ).loc main_arg4)
def be : Vec Ideal S128 .f32 := m ((c : Thread nD τ).loc main_arg5)

theorem x_eq : V1 m c (Proc.devRef .tc main_arg0) = x m c := V1_of m c _ (by decide)
theorem W_eq : V1 m c (Proc.devRef .tc main_arg2) = W m c := V1_of m c _ (by decide)

theorem blocks (h : Fin 2) (j : Fin 8) (i : Fin 1024) :
    (V1 m c (Proc.devRef .tc main_v0) : Vec Ideal S2x8x1x1024 .i32) (ix4 h j 0 i) = n m c (ix1 ⟨h.val * 8192 + j.val * 1024 + i.val, by omega⟩) := by
  unfold V1
  entry_read
  unfold n
  pointwise

theorem square (a d : Fin 128) :
    (V1 m c (Proc.devRef .tc main_v1) : Vec Ideal S128x128 .i32) (ix2 a d) = n m c (ix1 ⟨a.val * 128 + d.val, by omega⟩) := by
  unfold V1
  entry_read
  unfold n
  pointwise

theorem column (v : Fin 16384) :
    (V1 m c (Proc.devRef .tc main_v2) : Vec Ideal S16384x1 .i32) (ix2 v 0) = n m c (ix1 v) := by
  unfold V1
  entry_read
  unfold n
  pointwise

theorem bias (o : Fin 128) : (V1 m c (Proc.devRef .tc main_v3) : Vec Ideal S1x128 .f32) (ix2 0 o) = b m c (ix1 o) := by
  unfold V1
  entry_read
  unfold b
  pointwise

theorem scale (o : Fin 128) : (V1 m c (Proc.devRef .tc main_v4) : Vec Ideal S1x128 .f32) (ix2 0 o) = ga m c (ix1 o) := by
  unfold V1
  entry_read
  unfold ga
  pointwise

theorem shift (o : Fin 128) : (V1 m c (Proc.devRef .tc main_v5) : Vec Ideal S1x128 .f32) (ix2 0 o) = be m c (ix1 o) := by
  unfold V1
  entry_read
  unfold be
  pointwise

/-- The points with the padded slots zeroed. -/
def xm (v : Fin 16384) (p : Fin 32) (k : Fin 128) : EReal := x m c (ix3 v p k) * ((Counts.slot (n m c (ix1 v)) p : ℝ) : EReal)

end Cert.KernelIdeal.Entry
-- ==== Proof.StatsArray.lean ====
/-
  What the statistics call leaves in its three arrays, at the arguments.
-/
module

public import proofs.«01_k».proof.Proof.StatsRead
public import proofs.«01_k».proof.Proof.Entry

@[expose] public section

set_option maxRecDepth 16384

noncomputable section

namespace Cert.KernelIdeal.Stats

open Cert.KernelIdeal Cert.KernelIdeal.Gen
open Idealize.ShloMosaic Idealize.ShloMosaic.TcCoe
open Cert.KernelIdeal.Entry (x n xm)

variable (m : (ℓ : Loc nD τ sig) → Buf (Elt Ideal) ℓ) (c : Dev nD)

/-- The windows' block indices at a point. -/
theorem index (t : Fin cfg0.N) : win0_0.index t = ![t.val / 8, t.val % 8, 0, 0] ∧ win0_1.index t = ![t.val, 0, 0]
    ∧ win0_2.index t = ![t.val / 8, 0, 0] ∧ win0_3.index t = ![t.val / 8, 0, 0] ∧ win0_4.index t = ![t.val, 0, 0] ∧ t.val < 16 :=
  (by decide +kernel : ∀ t : Fin grid0.N, win0_0.index t = ![t.val / 8, t.val % 8, 0, 0] ∧ win0_1.index t = ![t.val, 0, 0]
    ∧ win0_2.index t = ![t.val / 8, 0, 0] ∧ win0_3.index t = ![t.val / 8, 0, 0] ∧ win0_4.index t = ![t.val, 0, 0] ∧ t.val < 16) t

/-- Voxel `v` of point `t`'s block, in the arguments. -/
def at_ (t : Fin cfg0.N) (v : Fin 1024) : Fin 16384 := ⟨t.val * 1024 + v.val, by have := (index t).2.2.2.2.2; omega⟩

theorem points_at (t : Fin cfg0.N) (v : Fin 1024) (p : Fin 32) (k : Fin 128) :
    (blkAt (V1 m) c 1 t : Vec Ideal S1024x32x128 .f32) (ix3 v p k) = x m c (ix3 (at_ t v) p k) := by
  rw [← Entry.x_eq]
  unfold at_
  blk_ext [blkAt, index t]

theorem counts_at (t : Fin cfg0.N) (v : Fin 1024) :
    (blkAt (V1 m) c 0 t : Vec Ideal S1x1x1x1024 .i32) (ix4 0 0 0 v) = n m c (ix1 (at_ t v)) := by
  have e := index t
  have h := Entry.blocks m c ⟨t.val / 8, by omega⟩ ⟨t.val % 8, by omega⟩ v
  have f : (at_ t v) = ⟨t.val / 8 * 8192 + t.val % 8 * 1024 + v.val, by omega⟩ := by
    unfold at_; apply Fin.ext; simp only; omega
  rw [f, ← h]
  blk_ext [blkAt, index t]

/-- One point's masked block, in the arguments. -/
theorem masked_point (t : Fin cfg0.N) (v : Fin 1024) (p : Fin 32) (k : Fin 128) :
    k0_pay3 (blkAt (V1 m) c 1 t) (blkAt (V1 m) c 0 t) (ix3 v p k) = xm m c (at_ t v) p k := by
  rw [masked_at, points_at, counts_at]
  rfl

/-- One point's row, in the arguments. -/
theorem row_at (t : Fin cfg0.N) (r : Fin 32768) (k : Fin 128) :
    k0_pay1 (blkAt (V1 m) c 1 t) (blkAt (V1 m) c 0 t) (ix2 r k) = xm m c (at_ t (vox r)) (pos r) k := by
  rw [flat_at, points_at, counts_at]
  rfl

/-- One voxel's share of the second moment, and of the sum. -/
def pair (a b : Fin 128) (v : Fin 16384) : EReal := ∑ p : Fin 32, xm m c v p a * xm m c v p b
def one (b : Fin 128) (v : Fin 16384) : EReal := ∑ p : Fin 32, xm m c v p b

/-- What a point adds to the second moment. -/
theorem point_pair (t : Fin cfg0.N) (a b : Fin 128) :
    k0_pay4 (blkAt (V1 m) c 1 t) (blkAt (V1 m) c 0 t) (ix2 a b) = ∑ v : Fin 1024, pair m c a b (at_ t v) := by
  rw [moment_at]
  unfold pair
  refine Fin.sum_divmod_congr (S := 32) fun r _ _ => ?_
  rw [row_at, row_at]
  rfl

/-- What a point adds to the sum. -/
theorem point_one (t : Fin cfg0.N) (b : Fin 128) :
    k0_pay5 (blkAt (V1 m) c 1 t) (blkAt (V1 m) c 0 t) (ix2 0 b) = ∑ v : Fin 1024, one m c b (at_ t v) := by
  rw [total_at]
  unfold one
  refine Fin.sum_divmod_congr (S := 32) fun r _ _ => ?_
  rw [row_at]
  rfl

/-- A half's totals when they are written back. -/
theorem moment_end (t : Fin cfg0.N) (ht : t.val % 8 = 7) (h : Fin 2) (hh : h.val = t.val / 8) (a b : Fin 128) :
    moment (V1 m) c t.val t.isLt (ix3 0 a b) = ∑ l : Fin 8192, pair m c a b ⟨h.val * 8192 + l.val, by omega⟩ := by
  have e := Pipeline.eq_sum_fin_of_reset_step_apply_of_flush
    (fun n h (i : Fin 128 × Fin 128) => moment (V1 m) c n h (ix3 0 i.1 i.2)) 8 (fun _ => 0)
    (fun t i => ∑ v : Fin 1024, pair m c i.1 i.2 (at_ t v))
    (fun t h i => by rw [moment_first _ _ t h, momentFirst_at, point_pair, zero_add])
    (fun t h i => by rw [moment_later _ _ t h, momentLater_at, point_pair]) t ht (a, b)
  rw [zero_add] at e
  refine e.trans (Fin.sum_mul_add_congr fun s k _ => congrArg _ (Fin.ext ?_))
  unfold at_
  simp only
  omega

theorem total_end (t : Fin cfg0.N) (ht : t.val % 8 = 7) (h : Fin 2) (hh : h.val = t.val / 8) (b : Fin 128) :
    total (V1 m) c t.val t.isLt (ix3 0 0 b) = ∑ l : Fin 8192, one m c b ⟨h.val * 8192 + l.val, by omega⟩ := by
  have e := Pipeline.eq_sum_fin_of_reset_step_apply_of_flush
    (fun n h (i : Fin 128) => total (V1 m) c n h (ix3 0 0 i)) 8 (fun _ => 0)
    (fun t i => ∑ v : Fin 1024, one m c i (at_ t v))
    (fun t h i => by rw [total_first _ _ t h, totalFirst_at, point_one, zero_add])
    (fun t h i => by rw [total_later _ _ t h, totalLater_at, point_one]) t ht b
  rw [zero_add] at e
  refine e.trans (Fin.sum_mul_add_congr fun s k _ => congrArg _ (Fin.ext ?_))
  unfold at_
  simp only
  omega

/-- A half's voxels added up. -/
def halfSumOf (f : Fin 16384 → EReal) (h : Fin 2) : EReal := ∑ l : Fin 8192, f ⟨h.val * 8192 + l.val, by omega⟩

/-- The array of second moments: one per half. -/
def momentArr : Vec Ideal S2x128x128 .f32 := fun i => halfSumOf (pair m c (i 1) (i 2)) (i 0)
/-- The array of sums: one per half. -/
def totalArr : Vec Ideal S2x1x128 .f32 := fun i => halfSumOf (one m c (i 2)) (i 0)
/-- The array of masked points. -/
def maskedArr : Vec Ideal S16384x32x128 .f32 := fun i => xm m c (i 0) (i 1) (i 2)

theorem moment_arr : (dat (V1 m) c).arrAt 2 cfg0.N = momentArr m c := by
  refine (dat (V1 m) c).arrAt_eq_of_covers 2 (momentArr m c) (by decide +kernel) fun t hf y => ?_
  have e := index t
  have ht := (flush0_2 t).mp hf
  blk_simp
  have h1 : ((win0_2.blk t).view.emb y : S2x128x128.Idx) = ix3 ⟨t.val / 8, by omega⟩ (y 1) (y 2) := by blk_ext [index t]
  have h2 : (y : S1x128x128.Idx) = ix3 0 (y 1) (y 2) := by blk_ext
  rw [h1]
  change moment (V1 m) c t.val t.isLt y = _
  rw [h2]
  exact moment_end m c t ht ⟨t.val / 8, by omega⟩ rfl (y 1) (y 2)

theorem total_arr : (dat (V1 m) c).arrAt 3 cfg0.N = totalArr m c := by
  refine (dat (V1 m) c).arrAt_eq_of_covers 3 (totalArr m c) (by decide +kernel) fun t hf y => ?_
  have e := index t
  have ht := (flush0_3 t).mp hf
  blk_simp
  have h1 : ((win0_3.blk t).view.emb y : S2x1x128.Idx) = ix3 ⟨t.val / 8, by omega⟩ 0 (y 2) := by blk_ext [index t]
  have h2 : (y : S1x1x128.Idx) = ix3 0 0 (y 2) := by blk_ext
  rw [h1]
  change total (V1 m) c t.val t.isLt y = _
  rw [h2]
  exact total_end m c t ht ⟨t.val / 8, by omega⟩ rfl (y 2)

theorem masked_arr : (dat (V1 m) c).arrAt 4 cfg0.N = maskedArr m c := by
  refine (dat (V1 m) c).arrAt_eq_of_covers 4 (maskedArr m c) (by decide +kernel) fun t hf y => ?_
  have e := index t
  blk_simp
  have h1 : ((win0_4.blk t).view.emb y : S16384x32x128.Idx) = ix3 (at_ t (y 0)) (y 1) (y 2) := by unfold at_; blk_ext [index t]
  have h2 : (y : S1024x32x128.Idx) = ix3 (y 0) (y 1) (y 2) := by blk_ext
  rw [h1]
  change k0_pay3 (blkAt (V1 m) c 1 t) (blkAt (V1 m) c 0 t) y = _
  rw [h2]
  exact masked_point m c t (y 0) (y 1) (y 2)

end Cert.KernelIdeal.Stats
-- ==== Proof.FinalizeArray.lean ====
/-
  What the finalising call leaves in its two arrays, at the arguments: the scaled weight and the shifted bias.
-/
module

public import proofs.«01_k».proof.Proof.FinalizeRead
public import proofs.«01_k».proof.Proof.StatsArray

@[expose] public section

set_option maxRecDepth 16384

noncomputable section

namespace Cert.KernelIdeal.Finalize

open Cert.KernelIdeal Cert.KernelIdeal.Gen
open Idealize.ShloMosaic Idealize.ShloMosaic.TcCoe
open Cert.KernelIdeal.Entry (x n W b ga be xm)
open Cert.Counts (held)
open Cert.KernelIdeal.Run (afterStats)

variable (m : (ℓ : Loc nD τ sig) → Buf (Elt Ideal) ℓ) (c : Dev nD)

/-! ## What the call finds -/

theorem in0 : afterStats m c (Proc.devRef .tc main_v6_0) = Stats.momentArr m c :=
  (Pipeline.afterRegion_arr (Stats.dat (V1 m) c) (V1 m c) launch0.win.arr_inj 2).trans (Stats.moment_arr m c)
theorem in1 : afterStats m c (Proc.devRef .tc main_v6_1) = Stats.totalArr m c :=
  (Pipeline.afterRegion_arr (Stats.dat (V1 m) c) (V1 m c) launch0.win.arr_inj 3).trans (Stats.total_arr m c)
theorem masked : afterStats m c (Proc.devRef .tc main_v6_2) = Stats.maskedArr m c :=
  (Pipeline.afterRegion_arr (Stats.dat (V1 m) c) (V1 m c) launch0.win.arr_inj 4).trans (Stats.masked_arr m c)
/-- Every buffer that is no output of the statistics call. -/
theorem kept (r : Ref sig .tc) (h : ∀ w, Pipeline.arrRef cfg0.spec w = r → (cfg0.win w).isOut = false) :
    afterStats m c (Proc.devRef .tc r) = V1 m c (Proc.devRef .tc r) :=
  Pipeline.afterRegion_keeps (Stats.dat (V1 m) c) (V1 m c) launch0.win.arr_inj (fun _ => rfl) r h

theorem in2 : afterStats m c (Proc.devRef .tc main_v1) = V1 m c (Proc.devRef .tc main_v1) := kept m c _ (by decide)
theorem in3 : afterStats m c (Proc.devRef .tc main_arg2) = W m c := (kept m c _ (by decide)).trans (Entry.W_eq m c)
theorem in4 : afterStats m c (Proc.devRef .tc main_v3) = V1 m c (Proc.devRef .tc main_v3) := kept m c _ (by decide)
theorem in5 : afterStats m c (Proc.devRef .tc main_v4) = V1 m c (Proc.devRef .tc main_v4) := kept m c _ (by decide)
theorem in6 : afterStats m c (Proc.devRef .tc main_v5) = V1 m c (Proc.devRef .tc main_v5) := kept m c _ (by decide)

theorem index (t : Fin cfg1.N) : win1_0.index t = ![0, 0, 0] ∧ win1_1.index t = ![0, 0, 0] ∧ win1_2.index t = ![0, 0]
    ∧ win1_3.index t = ![0, 0] ∧ win1_4.index t = ![0, 0] ∧ win1_5.index t = ![0, 0] ∧ win1_6.index t = ![0, 0] :=
  (by decide +kernel : ∀ t : Fin grid1.N, win1_0.index t = ![0, 0, 0] ∧ win1_1.index t = ![0, 0, 0] ∧ win1_2.index t = ![0, 0]
    ∧ win1_3.index t = ![0, 0] ∧ win1_4.index t = ![0, 0] ∧ win1_5.index t = ![0, 0] ∧ win1_6.index t = ![0, 0]) t

theorem blk0 (t : Fin cfg1.N) (h : Fin 2) (a d : Fin 128) :
    (blkAt (afterStats m) c 0 t : Vec Ideal S2x128x128 .f32) (ix3 h a d) = Stats.halfSumOf (Stats.pair m c a d) h := by
  refine Eq.trans ?_ (congrFun (in0 m c) (ix3 h a d))
  blk_ext [blkAt, index t]
theorem blk1 (t : Fin cfg1.N) (h : Fin 2) (d : Fin 128) :
    (blkAt (afterStats m) c 1 t : Vec Ideal S2x1x128 .f32) (ix3 h 0 d) = Stats.halfSumOf (Stats.one m c d) h := by
  refine Eq.trans ?_ (congrFun (in1 m c) (ix3 h 0 d))
  blk_ext [blkAt, index t]
theorem blk2 (t : Fin cfg1.N) (a d : Fin 128) :
    (blkAt (afterStats m) c 2 t : Vec Ideal S128x128 .i32) (ix2 a d) = n m c (ix1 ⟨a.val * 128 + d.val, by omega⟩) := by
  refine Eq.trans ?_ ((congrFun (in2 m c) (ix2 a d)).trans (Entry.square m c a d))
  blk_ext [blkAt, index t]
theorem blk3 (t : Fin cfg1.N) (a d : Fin 128) :
    (blkAt (afterStats m) c 3 t : Vec Ideal S128x128 .f32) (ix2 a d) = W m c (ix2 a d) := by
  refine Eq.trans ?_ (congrFun (in3 m c) (ix2 a d))
  blk_ext [blkAt, index t]
theorem blk4 (t : Fin cfg1.N) (d : Fin 128) :
    (blkAt (afterStats m) c 4 t : Vec Ideal S1x128 .f32) (ix2 0 d) = b m c (ix1 d) := by
  refine Eq.trans ?_ ((congrFun (in4 m c) (ix2 0 d)).trans (Entry.bias m c d))
  blk_ext [blkAt, index t]
theorem blk5 (t : Fin cfg1.N) (d : Fin 128) :
    (blkAt (afterStats m) c 5 t : Vec Ideal S1x128 .f32) (ix2 0 d) = ga m c (ix1 d) := by
  refine Eq.trans ?_ ((congrFun (in5 m c) (ix2 0 d)).trans (Entry.scale m c d))
  blk_ext [blkAt, index t]
theorem blk6 (t : Fin cfg1.N) (d : Fin 128) :
    (blkAt (afterStats m) c 6 t : Vec Ideal S1x128 .f32) (ix2 0 d) = be m c (ix1 d) := by
  refine Eq.trans ?_ ((congrFun (in6 m c) (ix2 0 d)).trans (Entry.shift m c d))
  blk_ext [blkAt, index t]

/-! ## What it computes -/

/-- The number of valid slots, and its reciprocal. -/
def cnt : EReal := ∑ v : Fin 16384, ((held (n m c (ix1 v)) : ℝ) : EReal)
def inv : EReal := Ideal.div 1 (cnt m c)
/-- The second moment of the valid points, and their sum. -/
def second (a d : Fin 128) : EReal := ∑ v : Fin 16384, Stats.pair m c a d v
def first (a : Fin 128) : EReal := ∑ v : Fin 16384, Stats.one m c a v
/-- The variance of an output channel times the number of valid slots. -/
def spr (o : Fin 128) : EReal :=
  ∑ a : Fin 128, (∑ d : Fin 128, (second m c a d - (first m c a * first m c d) * inv m c) * W m c (ix2 o d)) * W m c (ix2 o a)
/-- The scale of an output channel. -/
def scl (o : Fin 128) : EReal := ga m c (ix1 o) * Ideal.rsqrt (spr m c o * inv m c + Elem.eps)
/-- The folded weight and bias. -/
def wt (k o : Fin 128) : EReal := W m c (ix2 o k) * scl m c o
def bi (o : Fin 128) : EReal :=
  (b m c (ix1 o) - ((∑ k : Fin 128, first m c k * W m c (ix2 o k)) * inv m c + b m c (ix1 o))) * scl m c o + be m c (ix1 o)

theorem halves (f : Fin 16384 → EReal) : Stats.halfSumOf f 0 + Stats.halfSumOf f 1 = ∑ v : Fin 16384, f v := by
  rw [← Fin.sum_mul_add_fin 2 8192 f, Fin.sum_univ_two]
  rfl

theorem first_at (t : Fin cfg1.N) (a : Fin 128) :
    k1_pay4 (halfSum (blkAt (afterStats m) c 1 t) 0) (halfSum (blkAt (afterStats m) c 1 t) 1) (ix2 0 a) = first m c a := by
  rw [sum_at, halfSum_at, halfSum_at, blk1, blk1, halves]
  rfl

theorem second_at (t : Fin cfg1.N) (a d : Fin 128) :
    half (blkAt (afterStats m) c 0 t) 0 (ix3 0 a d) + half (blkAt (afterStats m) c 0 t) 1 (ix3 0 a d) = second m c a d := by
  rw [half_at, half_at, blk0, blk0, halves]
  rfl

theorem cnt_pt (t : Fin cfg1.N) :
    ∑ a : Fin 128, ∑ d : Fin 128, ((held ((blkAt (afterStats m) c 2 t : Vec Ideal S128x128 .i32) (ix2 a d)) : ℝ) : EReal) = cnt m c :=
  Fin.sum_mul_add_congr fun a d _ => by rw [blk2]

theorem inv_pt (t : Fin cfg1.N) : k1_pay5 (blkAt (afterStats m) c 2 t) = inv m c := by
  rw [inv_at]
  unfold inv
  rw [← cnt_pt m c t]

theorem spr_pt (t : Fin cfg1.N) (o : Fin 128) :
    spread (blkAt (afterStats m) c 0 t) (blkAt (afterStats m) c 1 t) (blkAt (afterStats m) c 2 t) (blkAt (afterStats m) c 3 t) (ix1 o) = spr m c o := by
  unfold spread
  rw [spread_at]
  have e : ∀ x, k1_pay4 (halfSum (blkAt (afterStats m) c 1 t) 0) (halfSum (blkAt (afterStats m) c 1 t) 1) (ix2 0 x) = first m c x := first_at m c t
  have g : ∀ x y, half (blkAt (afterStats m) c 0 t) 0 (ix3 0 x y) + half (blkAt (afterStats m) c 0 t) 1 (ix3 0 x y) = second m c x y :=
    second_at m c t
  simp only [Fin.sum_univ_one, inv_pt, blk3, g, e]
  rfl

theorem scl_pt (t : Fin cfg1.N) (o : Fin 128) :
    k1_pay1 (k1_pay5 (blkAt (afterStats m) c 2 t)) (spread (blkAt (afterStats m) c 0 t) (blkAt (afterStats m) c 1 t) (blkAt (afterStats m) c 2 t) (blkAt (afterStats m) c 3 t))
      (blkAt (afterStats m) c 5 t) (ix2 0 o) = scl m c o := by
  rw [scale_at, inv_pt, spr_pt, blk5]
  rfl

theorem wt_pt (t : Fin cfg1.N) (k o : Fin 128) :
    weight (blkAt (afterStats m) c 0 t) (blkAt (afterStats m) c 1 t) (blkAt (afterStats m) c 2 t) (blkAt (afterStats m) c 3 t) (blkAt (afterStats m) c 5 t) (ix2 k o)
      = wt m c k o := by
  unfold weight
  rw [weight_at, turn_at, scl_pt, blk3]
  rfl

theorem bi_pt (t : Fin cfg1.N) (o : Fin 128) :
    bias (blkAt (afterStats m) c 0 t) (blkAt (afterStats m) c 1 t) (blkAt (afterStats m) c 2 t) (blkAt (afterStats m) c 3 t) (blkAt (afterStats m) c 4 t)
      (blkAt (afterStats m) c 5 t) (blkAt (afterStats m) c 6 t) (ix2 0 o) = bi m c o := by
  unfold bias
  rw [bias_at, scl_pt, mean_at, inv_pt, blk4, blk6]
  simp only [first_at, blk3]
  unfold bi
  have e : ∀ x, k1_pay4 (halfSum (blkAt (afterStats m) c 1 t) 0) (halfSum (blkAt (afterStats m) c 1 t) 1) (ix2 0 x) = first m c x := first_at m c t
  simp only [e]

def wtArr : Vec Ideal S128x128 .bf16 := fun i => wt m c (i 0) (i 1)
def biArr : Vec Ideal S1x128 .f32 := fun i => bi m c (i 1)

theorem wt_arr : (dat (afterStats m) c).arrAt 7 cfg1.N = wtArr m c := by
  refine (dat (afterStats m) c).arrAt_eq_of_after_last 7 t1_0 (by decide +kernel) _ fun j => ?_
  blk_simp
  have h2 : (j : S128x128.Idx) = ix2 (j 0) (j 1) := by blk_ext
  change weight _ _ _ _ _ _ = wtArr m c j
  rw [h2]
  exact wt_pt m c t1_0 (j 0) (j 1)

theorem bi_arr : (dat (afterStats m) c).arrAt 8 cfg1.N = biArr m c := by
  refine (dat (afterStats m) c).arrAt_eq_of_after_last 8 t1_0 (by decide +kernel) _ fun j => ?_
  blk_simp
  have h2 : (j : S1x128.Idx) = ix2 0 (j 1) := by blk_ext
  change bias _ _ _ _ _ _ _ _ = biArr m c j
  rw [h2]
  exact bi_pt m c t1_0 (j 1)

end Cert.KernelIdeal.Finalize
-- ==== Proof.PoolArray.lean ====
/-
  What the pooling call leaves in the result, at the arguments.
-/
module

public import proofs.«01_k».proof.Proof.PoolRead
public import proofs.«01_k».proof.Proof.FinalizeArray

@[expose] public section

set_option maxRecDepth 16384

noncomputable section

namespace Cert.KernelIdeal.Pool

open Cert.KernelIdeal Cert.KernelIdeal.Gen
open Idealize.ShloMosaic Idealize.ShloMosaic.TcCoe
open Cert.KernelIdeal.Entry (n xm)
open Cert.KernelIdeal.Finalize (wt bi)
open Cert.Counts (held)
open Cert.KernelIdeal.Run (afterStats afterFinalize afterPool)

variable (m : (ℓ : Loc nD τ sig) → Buf (Elt Ideal) ℓ) (c : Dev nD)

/-! ## What the call finds -/

theorem in2 : afterFinalize m c (Proc.devRef .tc main_v7_0) = Finalize.wtArr m c :=
  (Pipeline.afterRegion_arr (Finalize.dat (afterStats m) c) (afterStats m c) launch1.win.arr_inj 7).trans (Finalize.wt_arr m c)
theorem in3 : afterFinalize m c (Proc.devRef .tc main_v7_1) = Finalize.biArr m c :=
  (Pipeline.afterRegion_arr (Finalize.dat (afterStats m) c) (afterStats m c) launch1.win.arr_inj 8).trans (Finalize.bi_arr m c)
/-- Every buffer that is no output of the finalising call. -/
theorem kept (r : Ref sig .tc) (h : ∀ w, Pipeline.arrRef cfg1.spec w = r → (cfg1.win w).isOut = false) :
    afterFinalize m c (Proc.devRef .tc r) = afterStats m c (Proc.devRef .tc r) :=
  Pipeline.afterRegion_keeps (Finalize.dat (afterStats m) c) (afterStats m c) launch1.win.arr_inj (fun _ => rfl) r h
theorem in0 : afterFinalize m c (Proc.devRef .tc main_v2) = V1 m c (Proc.devRef .tc main_v2) :=
  (kept m c _ (by decide)).trans (Finalize.kept m c _ (by decide))
theorem in1 : afterFinalize m c (Proc.devRef .tc main_v6_2) = Stats.maskedArr m c := (kept m c _ (by decide)).trans (Finalize.masked m c)

theorem index (t : Fin cfg2.N) : win2_0.index t = ![t.val, 0] ∧ win2_1.index t = ![t.val, 0, 0] ∧ win2_2.index t = ![0, 0]
    ∧ win2_3.index t = ![0, 0] ∧ win2_4.index t = ![t.val, 0] ∧ t.val < 8 :=
  (by decide +kernel : ∀ t : Fin grid2.N, win2_0.index t = ![t.val, 0] ∧ win2_1.index t = ![t.val, 0, 0] ∧ win2_2.index t = ![0, 0]
    ∧ win2_3.index t = ![0, 0] ∧ win2_4.index t = ![t.val, 0] ∧ t.val < 8) t

/-- Voxel `v` of point `t`'s block, in the arguments. -/
def at_ (t : Fin cfg2.N) (v : Fin 2048) : Fin 16384 := ⟨t.val * 2048 + v.val, by have := (index t).2.2.2.2.2; omega⟩

theorem blk0 (t : Fin cfg2.N) (v : Fin 2048) :
    (blkAt (afterFinalize m) c 0 t : Vec Ideal S2048x1 .i32) (ix2 v 0) = n m c (ix1 (at_ t v)) := by
  refine Eq.trans ?_ ((congrFun (in0 m c) (ix2 (at_ t v) 0)).trans (Entry.column m c (at_ t v)))
  unfold at_
  blk_ext [blkAt, index t]
theorem blk1 (t : Fin cfg2.N) (v : Fin 2048) (p : Fin 32) (k : Fin 128) :
    (blkAt (afterFinalize m) c 1 t : Vec Ideal S2048x32x128 .bf16) (ix3 v p k) = xm m c (at_ t v) p k := by
  refine Eq.trans ?_ (congrFun (in1 m c) (ix3 (at_ t v) p k))
  unfold at_
  blk_ext [blkAt, index t]
theorem blk2 (t : Fin cfg2.N) (k o : Fin 128) :
    (blkAt (afterFinalize m) c 2 t : Vec Ideal S128x128 .bf16) (ix2 k o) = wt m c k o := by
  refine Eq.trans ?_ (congrFun (in2 m c) (ix2 k o))
  blk_ext [blkAt, index t]
theorem blk3 (t : Fin cfg2.N) (o : Fin 128) :
    (blkAt (afterFinalize m) c 3 t : Vec Ideal S1x128 .f32) (ix2 0 o) = bi m c o := by
  refine Eq.trans ?_ (congrFun (in3 m c) (ix2 0 o))
  blk_ext [blkAt, index t]

/-! ## What it computes -/

/-- A voxel's pooled channel. -/
def out (v : Fin 16384) (o : Fin 128) : EReal :=
  (∑ p : Fin 32, max ((∑ k : Fin 128, xm m c v p k * wt m c k o) + bi m c o) 0) * recip ((held (n m c (ix1 v)) : ℝ) : EReal)
    - ((Ideal.ofBits .f32 0x42000000#32 - ((held (n m c (ix1 v)) : ℝ) : EReal)) * recip ((held (n m c (ix1 v)) : ℝ) : EReal)) * max (bi m c o) 0

theorem out_pt (t : Fin cfg2.N) (v : Fin 2048) (o : Fin 128) :
    k2_pay1 (blkAt (afterFinalize m) c 1 t) (blkAt (afterFinalize m) c 3 t) (blkAt (afterFinalize m) c 2 t) (blkAt (afterFinalize m) c 0 t) (ix2 v o)
      = out m c (at_ t v) o := by
  rw [pooled_at, blk3, blk0]
  simp only [blk1, blk2]
  rfl

def outArr : Vec Ideal S16384x128 .f32 := fun i => out m c (i 0) (i 1)

theorem out_arr : (dat (afterFinalize m) c).arrAt 4 cfg2.N = outArr m c := by
  refine (dat (afterFinalize m) c).arrAt_eq_of_covers 4 (outArr m c) (by decide +kernel) fun t hf y => ?_
  have e := index t
  blk_simp
  have h1 : ((win2_4.blk t).view.emb y : S16384x128.Idx) = ix2 (at_ t (y 0)) (y 1) := by unfold at_; blk_ext [index t]
  have h2 : (y : S2048x128.Idx) = ix2 (y 0) (y 1) := by blk_ext
  rw [h1]
  change k2_pay1 (blkAt (afterFinalize m) c 1 t) (blkAt (afterFinalize m) c 3 t) (blkAt (afterFinalize m) c 2 t) (blkAt (afterFinalize m) c 0 t) y = _
  rw [h2]
  exact out_pt m c t (y 0) (y 1)

/-- The result after the run. -/
theorem result : afterPool m c (Proc.devRef .tc main_v8) = outArr m c :=
  (Pipeline.afterRegion_arr (dat (afterFinalize m) c) (afterFinalize m c) launch2.win.arr_inj 4).trans (out_arr m c)

end Cert.KernelIdeal.Pool
-- ==== Proof.KernelReal.lean ====
/-
  The kernel's result at finite arguments: a real number, the pooling of the normalised layer.
-/
module

public import proofs.«01_k».proof.Proof.Lift
public import proofs.«01_k».proof.Proof.PoolArray

@[expose] public section

noncomputable section

namespace Cert.KernelIdeal.Value

open Cert.KernelIdeal Cert.KernelIdeal.Gen
open Idealize.ShloMosaic Idealize.ShloMosaic.TcCoe
open Cert.KernelIdeal.Entry (x n W b ga be xm)
open Cert.Counts (held slot)
open Cert.Lift

variable (m : (ℓ : Loc nD τ sig) → Buf (Elt Ideal) ℓ) (c : Dev nD)

/-- The arguments at finite contents: the valid points and the other floats are these reals, and no count is negative. -/
structure Finite (xr : Fin 16384 → Fin 32 → Fin 128 → ℝ) (wr : Fin 128 → Fin 128 → ℝ) (br gr er : Fin 128 → ℝ) : Prop where
  x : ∀ v p k, slot (n m c (ix1 v)) p ≠ 0 → x m c (ix3 v p k) = ((xr v p k : ℝ) : EReal)
  w : ∀ o k, W m c (ix2 o k) = ((wr o k : ℝ) : EReal)
  b : ∀ o, b m c (ix1 o) = ((br o : ℝ) : EReal)
  ga : ∀ o, ga m c (ix1 o) = ((gr o : ℝ) : EReal)
  be : ∀ o, be m c (ix1 o) = ((er o : ℝ) : EReal)
  n : ∀ v, 0 ≤ (n m c (ix1 v)).toInt

/-- Which slots are valid. -/
def val (v : Fin 16384) (p : Fin 32) : ℝ := slot (n m c (ix1 v)) p

variable {m c} {xr : Fin 16384 → Fin 32 → Fin 128 → ℝ} {wr : Fin 128 → Fin 128 → ℝ} {br gr er : Fin 128 → ℝ}
variable (F : Finite m c xr wr br gr er)
include F

theorem xm_real (v : Fin 16384) (p : Fin 32) (k : Fin 128) : xm m c v p k = ((xr v p k * val m c v p : ℝ) : EReal) := by
  unfold xm val
  exact Lift.masked_real (F.x v p k)

theorem held_real (v : Fin 16384) : held (n m c (ix1 v)) = ∑ p, val m c v p := (Counts.sum_slot _ (F.n v)).symm

theorem cnt_real : Finalize.cnt m c = ((Moments.num (val m c) : ℝ) : EReal) :=
  sum_real fun v => congrArg _ (held_real F v)

theorem first_real (a : Fin 128) : Finalize.first m c a = ((Moments.first xr (val m c) a : ℝ) : EReal) :=
  sum_real fun v => sum_real fun p => xm_real F v p a

theorem second_real (a d : Fin 128) : Finalize.second m c a d = ((Moments.second xr (val m c) a d : ℝ) : EReal) :=
  sum_real fun v => sum_real fun p => by rw [xm_real F, xm_real F, EReal.coe_mul (_ * _) (_ * _)]

theorem inv_real (hN : Moments.num (val m c) ≠ 0) : Finalize.inv m c = (((Moments.num (val m c))⁻¹ : ℝ) : EReal) := by
  unfold Finalize.inv
  rw [cnt_real F, Lift.inv_real _ hN]

theorem row_real (hN : Moments.num (val m c) ≠ 0) (o a : Fin 128) :
    ∑ d : Fin 128, (Finalize.second m c a d - (Finalize.first m c a * Finalize.first m c d) * Finalize.inv m c) * W m c (ix2 o d)
      = ((∑ d : Fin 128, (Moments.second xr (val m c) a d
          - Moments.first xr (val m c) a * Moments.first xr (val m c) d * (Moments.num (val m c))⁻¹) * wr o d : ℝ) : EReal) :=
  sum_real fun d => by
    rw [second_real F, first_real F, first_real F, inv_real F hN, F.w, EReal.coe_mul, EReal.coe_sub, EReal.coe_mul, EReal.coe_mul]

theorem spr_real (hN : Moments.num (val m c) ≠ 0) (o : Fin 128) :
    Finalize.spr m c o = ((Moments.spread xr (val m c) (wr o) : ℝ) : EReal) :=
  sum_real fun a => by rw [row_real F hN, F.w, EReal.coe_mul]

omit F in
theorem val_idem (v : Fin 16384) (p : Fin 32) : val m c v p * val m c v p = val m c v p := Counts.slot_idem _ _
omit F in
theorem val_nonneg (v : Fin 16384) (p : Fin 32) : 0 ≤ val m c v p := Counts.slot_nonneg _ _
omit F in
theorem val_cases (v : Fin 16384) (p : Fin 32) : val m c v p = 0 ∨ val m c v p = 1 := Counts.slot_cases _ _

variable {e : ℝ} (he : 0 < e) (hE : Elem.eps = ((e : ℝ) : EReal)) (hN : Moments.num (val m c) ≠ 0)

omit F in
theorem root_pos (o : Fin 128) (he : 0 < e) : 0 < Moments.var xr (val m c) (wr o) (br o) + e :=
  add_pos_of_nonneg_of_pos (Moments.var_nonneg _ _ _ _ val_nonneg) he

include he hE hN

theorem scl_real (o : Fin 128) :
    Finalize.scl m c o = ((gr o * (Real.sqrt (Moments.var xr (val m c) (wr o) (br o) + e))⁻¹ : ℝ) : EReal) := by
  unfold Finalize.scl
  rw [F.ga, spr_real F hN, inv_real F hN, ← EReal.coe_mul, Moments.spread_eq _ _ _ (br o) val_idem hN, hE, ← EReal.coe_add,
    rsqrt_real _ (root_pos o he), ← EReal.coe_mul]

theorem wt_real (k o : Fin 128) :
    Finalize.wt m c k o = ((wr o k * (gr o * (Real.sqrt (Moments.var xr (val m c) (wr o) (br o) + e))⁻¹) : ℝ) : EReal) := by
  unfold Finalize.wt
  rw [F.w, scl_real F he hE hN, ← EReal.coe_mul]

omit he hE in
theorem mean_real (o : Fin 128) :
    (∑ k : Fin 128, Finalize.first m c k * W m c (ix2 o k)) * Finalize.inv m c + b m c (ix1 o)
      = ((Moments.avg (val m c) (Moments.lin xr (wr o) (br o)) : ℝ) : EReal) := by
  have h : ∑ k : Fin 128, Finalize.first m c k * W m c (ix2 o k) = ((∑ k : Fin 128, Moments.first xr (val m c) k * wr o k : ℝ) : EReal) :=
    sum_real fun k => by rw [first_real F, F.w, EReal.coe_mul]
  rw [h, inv_real F hN, F.b, ← EReal.coe_mul, ← EReal.coe_add, Moments.mean_eq _ _ _ _ hN]

theorem bi_real (o : Fin 128) :
    Finalize.bi m c o = (((br o - Moments.avg (val m c) (Moments.lin xr (wr o) (br o)))
      * (gr o * (Real.sqrt (Moments.var xr (val m c) (wr o) (br o) + e))⁻¹) + er o : ℝ) : EReal) := by
  unfold Finalize.bi
  rw [mean_real F hN, scl_real F he hE hN, F.b, F.be, ← EReal.coe_sub, ← EReal.coe_mul, ← EReal.coe_add]

/-- A voxel's layer after the folded weight and bias, rectified, over all its slots. -/
theorem feat_real (v : Fin 16384) (o : Fin 128) :
    ∑ p : Fin 32, max ((∑ k : Fin 128, xm m c v p k * Finalize.wt m c k o) + Finalize.bi m c o) 0
      = ((∑ p : Fin 32, max ((∑ k : Fin 128, (xr v p k * val m c v p) * (wr o k * (gr o * (Real.sqrt (Moments.var xr (val m c) (wr o) (br o) + e))⁻¹)))
          + ((br o - Moments.avg (val m c) (Moments.lin xr (wr o) (br o)))
            * (gr o * (Real.sqrt (Moments.var xr (val m c) (wr o) (br o) + e))⁻¹) + er o)) 0 : ℝ) : EReal) :=
  sum_real fun p => by
    have h : ∑ k : Fin 128, xm m c v p k * Finalize.wt m c k o
        = ((∑ k : Fin 128, (xr v p k * val m c v p) * (wr o k * (gr o * (Real.sqrt (Moments.var xr (val m c) (wr o) (br o) + e))⁻¹)) : ℝ) : EReal) :=
      sum_real fun k => by rw [xm_real F, wt_real F he hE hN, EReal.coe_mul (_ * _) (_ * _)]
    rw [h, bi_real F he hE hN, ← EReal.coe_add, max_zero]

/-- A voxel that holds a point. -/
theorem out_real (v : Fin 16384) (o : Fin 128) (hv : 1 ≤ held (n m c (ix1 v))) :
    Pool.out m c v o = (((∑ p, Moments.act xr (val m c) (wr o) (br o) (gr o) (er o) e v p * val m c v p)
      / max (∑ p, val m c v p) 1 : ℝ) : EReal) := by
  have h0 : (0 : EReal) < ((held (n m c (ix1 v)) : ℝ) : EReal) := by
    rw [← EReal.coe_zero]; exact EReal.coe_lt_coe_iff.2 (by linarith)
  have hm : max (held (n m c (ix1 v))) 1 ≠ 0 := by
    rw [max_eq_left hv]; linarith
  have hr : Pool.recip ((held (n m c (ix1 v)) : ℝ) : EReal) = (((max (held (n m c (ix1 v))) 1)⁻¹ : ℝ) : EReal) := by
    unfold Pool.recip
    rw [if_pos h0, max_one, Lift.inv_real _ hm]
  unfold Pool.out
  rw [hr, feat_real F he hE hN, bi_real F he hE hN, slots, max_zero, ← EReal.coe_sub, ← EReal.coe_mul, ← EReal.coe_mul, ← EReal.coe_mul, ← EReal.coe_sub]
  have hp := Moments.pool_eq xr (val m c) (wr o) (br o) (gr o) (er o) e val_cases v (max (held (n m c (ix1 v))) 1)⁻¹ _ _ rfl rfl
  rw [Finset.card_univ, Fintype.card_fin, ← held_real F v] at hp
  rw [div_eq_mul_inv, ← held_real F v]
  exact congrArg _ hp

omit F he hE hN in
/-- A voxel that holds none. -/
theorem out_empty (v : Fin 16384) (o : Fin 128) (hv : held (n m c (ix1 v)) = 0) : Pool.out m c v o = 0 := by
  unfold Pool.out Pool.recip
  rw [hv, EReal.coe_zero, if_neg (lt_irrefl _), mul_zero, mul_zero, zero_mul, sub_zero]

end Cert.KernelIdeal.Value
-- ==== Proof.AxisSum.lean ====
/-
  A sum of a three-axis array over its first two axes, read at the axis that is left.
-/
module

public import Idealize.ShloMosaic.Lib.Pointwise

@[expose] public section

noncomputable section

namespace Cert.AxisSum

open Idealize.ShloMosaic

variable {a b c : ℕ}

/-- An index drops to channel `o` exactly when its last coordinate is `o`. -/
theorem drop_iff (h : (⟨3, ![a, b, c]⟩ : Shape).ReducesTo [0, 1] ⟨1, ![c]⟩) (o : Fin c) (i : (⟨3, ![a, b, c]⟩ : Shape).Idx) :
    h.drop i = ix1 o ↔ ∃ k : Fin a × Fin b, ix3 k.1 k.2 o = i := by
  refine ⟨fun e => ⟨(i 0, i 1), ?_⟩, ?_⟩
  · have e2 : (i 2).val = o.val := congrArg Fin.val (congrFun e 0)
    rw [eq_ix3 i]
    exact congrArg _ (Fin.ext e2.symm)
  · rintro ⟨k, rfl⟩
    exact funext fun z => Fin.ext (by match z with | ⟨0, _⟩ => rfl)

/-- The host's sum over the first two axes. -/
theorem hostSum (h : (⟨3, ![a, b, c]⟩ : Shape).ReducesTo [0, 1] ⟨1, ![c]⟩) (v : (⟨3, ![a, b, c]⟩ : Shape).Idx → EReal) (e : EReal)
    (o : Fin c) : Ideal.hostReduceAdd h v e (ix1 o) = e + ∑ k : Fin a, ∑ l : Fin b, v (ix3 k l o) := by
  refine congrArg (e + ·) ((Finset.sum_filter_eq_sum_of_fiber _ (fun k : Fin a × Fin b => ix3 k.1 k.2 o)
    (fun _ _ q => Prod.ext (congrFun q 0) (congrFun q 1)) (drop_iff h o) v).trans ?_)
  rw [Fintype.sum_prod_type]

end Cert.AxisSum
-- ==== Proof.RefValue.lean ====
/-
  What the reference computes, element by element: its printed operations, composed in the reference's own stages
  (mask, linear layer, mean, variance, normalised and rectified features, pooled result), each read at an index.
-/
module

public import proofs.«01_k».proof.Proof.Gen.ReferenceIdeal.Run
public import Idealize.ShloMosaic.Lib.Pointwise
public import proofs.«01_k».proof.Proof.AxisSum
public import proofs.«01_k».proof.Proof.Elem

@[expose] public section

noncomputable section

namespace Cert.ReferenceIdeal.Value

open Cert.ReferenceIdeal Cert.ReferenceIdeal.Gen
open Idealize.ShloMosaic Idealize.ShloMosaic.TcCoe Idealize.ShloMosaic.StableHlo Idealize.SL.Sem

/-- The valid slots: one where the slot's number is below the voxel's count, else zero. -/
def mask (n : IVec S16384 32) : FVec Ideal S16384x32 .f32 :=
  uitofp .f32 (cmpi .slt
    (broadcastInDim S16384x32 ![0, 1] bcast_S1x32_S16384x32_0_1 (broadcastInDim S1x32 ![1] bcast_S32_S1x32_1 (iotaInDim S32 32 0)))
    (broadcastInDim S16384x32 ![0, 1] bcast_S16384x1_S16384x32_0_1 (broadcastInDim S16384x1 ![0] bcast_S16384_S16384x1_0 n)))

/-- The mask along the channels. -/
def mask3 (n : IVec S16384 32) : FVec Ideal S16384x32x128 .f32 :=
  broadcastInDim S16384x32x128 ![0, 1, 2] bcast_S16384x32x1_S16384x32x128_0_1_2
    (broadcastInDim S16384x32x1 ![0, 1] bcast_S16384x32_S16384x32x1_0_1 (mask n))

/-- A row of channels along voxels and slots. -/
def row3 (r : FVec Ideal S128 .f32) : FVec Ideal S16384x32x128 .f32 :=
  broadcastInDim S16384x32x128 ![0, 1, 2] bcast_S1x1x128_S16384x32x128_0_1_2 (broadcastInDim S1x1x128 ![2] bcast_S128_S1x1x128_2 r)

/-- The linear layer. -/
def lin (x : FVec Ideal S16384x32x128 .f32) (W : FVec Ideal S128x128 .f32) (b : FVec Ideal S128 .f32) : FVec Ideal S16384x32x128 .f32 :=
  addf (Host.dotGeneral dot_S16384x32x128_S128x128_S16384x32x128_2_1_01_0_n_n none x W) (row3 b)

/-- The number of valid slots, along the channels. -/
def valid (n : IVec S16384 32) : FVec Ideal S128 .f32 :=
  broadcastInDim S128 ![] bcast_S_S128 (Host.reduceAdd (mask n) (constant S_ .f32 0x00000000#32) reducesTo_S16384x32_S_d0_1 h_S_)

/-- A channel's mean over the valid slots. -/
def avg (n : IVec S16384 32) (f : FVec Ideal S16384x32x128 .f32) : FVec Ideal S128 .f32 :=
  Host.divf (Host.reduceAdd (mulf f (mask3 n)) (constant S_ .f32 0x00000000#32) reducesTo_S16384x32x128_S128_d0_1 h_S_) (valid n)

/-- The square. -/
def sq (f : FVec Ideal S16384x32x128 .f32) : FVec Ideal S16384x32x128 .f32 := mulf f f

/-- The deviation from the mean. -/
def dev (n : IVec S16384 32) (f : FVec Ideal S16384x32x128 .f32) : FVec Ideal S16384x32x128 .f32 := subf f (row3 (avg n f))

/-- A channel's divisor: the root of its variance and the small constant. -/
def root (n : IVec S16384 32) (f : FVec Ideal S16384x32x128 .f32) : FVec Ideal S128 .f32 :=
  Host.sqrt (addf (avg n (sq (dev n f))) (broadcastInDim S128 ![] bcast_S_S128 (constant S_ .f32 0x3727C5AC#32)))

/-- The normalised, scaled, shifted, rectified features. -/
def act (n : IVec S16384 32) (f : FVec Ideal S16384x32x128 .f32) (ga be : FVec Ideal S128 .f32) : FVec Ideal S16384x32x128 .f32 :=
  maximumf (addf (mulf (Host.divf (dev n f) (row3 (root n f))) (row3 ga)) (row3 be))
    (broadcastInDim S16384x32x128 ![] bcast_S_S16384x32x128 (constant S_ .f32 0x00000000#32))

/-- The number of valid slots of each voxel. -/
def cnt (n : IVec S16384 32) : FVec Ideal S16384 .f32 :=
  Host.reduceAdd (mask n) (constant S_ .f32 0x00000000#32) reducesTo_S16384x32_S16384_d1 h_S_

/-- The pooled result. -/
def pool (n : IVec S16384 32) (r : FVec Ideal S16384x32x128 .f32) : FVec Ideal S16384x128 .f32 :=
  select
    (broadcastInDim S16384x128 ![0, 1] bcast_S16384x1_S16384x128_0_1
      (cmpf .ogt (broadcastInDim S16384x1 ![0] bcast_S16384_S16384x1_0 (cnt n))
        (broadcastInDim S16384x1 ![] bcast_S_S16384x1 (constant S_ .f32 0x00000000#32))))
    (Host.divf (Host.reduceAdd (mulf r (mask3 n)) (constant S_ .f32 0x00000000#32) reducesTo_S16384x32x128_S16384x128_d1 h_S_)
      (broadcastInDim S16384x128 ![0, 1] bcast_S16384x1_S16384x128_0_1 (broadcastInDim S16384x1 ![0] bcast_S16384_S16384x1_0
        (maximumf (cnt n) (broadcastInDim S16384 ![] bcast_S_S16384 (constant S_ .f32 0x3F800000#32))))))
    (broadcastInDim S16384x128 ![] bcast_S_S16384x128 (id (constant S_ .f32 0x00000000#32)))

set_option maxRecDepth 8192 in
/-- The reference's result is its stages composed. -/
theorem out_eq (m : (ℓ : Loc nD τ sig) → Buf (Elt Ideal) ℓ) (c : Dev nD)
    (x : FVec Ideal S16384x32x128 .f32) (n : IVec S16384 32) (W : FVec Ideal S128x128 .f32) (b ga be : FVec Ideal S128 .f32)
    (h0 : m ((c.tc : Thread nD τ).loc main_arg0) = x) (h1 : m ((c.tc : Thread nD τ).loc main_arg1) = n)
    (h2 : m ((c.tc : Thread nD τ).loc main_arg2) = W) (h3 : m ((c.tc : Thread nD τ).loc main_arg3) = b)
    (h4 : m ((c.tc : Thread nD τ).loc main_arg4) = ga) (h5 : m ((c.tc : Thread nD τ).loc main_arg5) = be) :
    res_out0 m c = pool n (act n (lin x W b) ga be) := by
  subst h0 h1 h2 h3 h4 h5
  unfold res_out0 res_main_v55
  rfl

/-! ## The stages at an index -/

theorem mask_at (n : IVec S16384 32) (v : Fin 16384) (p : Fin 32) :
    mask n (ix2 v p) = FloatOps.uitofp (F := Ideal) .f32 (IntOp.cmpi .slt (BitVec.ofNat 32 p.val) (n (ix1 v))) := by
  unfold mask; pointwise

theorem mask3_at (n : IVec S16384 32) (v : Fin 16384) (p : Fin 32) (o : Fin 128) : mask3 n (ix3 v p o) = mask n (ix2 v p) := by
  unfold mask3; pointwise

theorem row3_at (r : FVec Ideal S128 .f32) (v : Fin 16384) (p : Fin 32) (o : Fin 128) : row3 r (ix3 v p o) = r (ix1 o) := by
  unfold row3; pointwise

theorem lin_at (x : FVec Ideal S16384x32x128 .f32) (W : FVec Ideal S128x128 .f32) (b : FVec Ideal S128 .f32)
    (v : Fin 16384) (p : Fin 32) (o : Fin 128) :
    lin x W b (ix3 v p o) = (∑ k : Fin 128, x (ix3 v p k) * W (ix2 o k)) + b (ix1 o) := by
  unfold lin; pointwise [row3_at]

theorem valid_at (n : IVec S16384 32) (o : Fin 128) : valid n (ix1 o) = ∑ v : Fin 16384, ∑ p : Fin 32, mask n (ix2 v p) := by
  unfold valid; pointwise

theorem avg_at (n : IVec S16384 32) (f : FVec Ideal S16384x32x128 .f32) (o : Fin 128) :
    avg n f (ix1 o) = Ideal.div (∑ v : Fin 16384, ∑ p : Fin 32, f (ix3 v p o) * mask n (ix2 v p)) (∑ v : Fin 16384, ∑ p : Fin 32, mask n (ix2 v p)) := by
  unfold avg
  rw [Elem.div_at, valid_at, ValueIdx.hostReduceAdd_apply, AxisSum.hostSum, Elem.zero_at, zero_add]
  simp only [Elem.mul_at, mask3_at]

theorem dev_at (n : IVec S16384 32) (f : FVec Ideal S16384x32x128 .f32) (v : Fin 16384) (p : Fin 32) (o : Fin 128) :
    dev n f (ix3 v p o) = f (ix3 v p o) - avg n f (ix1 o) := by
  unfold dev; pointwise [row3_at]

theorem root_at (n : IVec S16384 32) (f : FVec Ideal S16384x32x128 .f32) (o : Fin 128) :
    root n f (ix1 o) = Ideal.sqrt (avg n (sq (dev n f)) (ix1 o) + Elem.eps) := by
  unfold root
  rw [Elem.sqrt_at, Elem.add_at, ValueIdx.broadcastInDim_scalar_apply, Elem.eps_at]

theorem act_at (n : IVec S16384 32) (f : FVec Ideal S16384x32x128 .f32) (ga be : FVec Ideal S128 .f32)
    (v : Fin 16384) (p : Fin 32) (o : Fin 128) :
    act n f ga be (ix3 v p o) = max (Ideal.div (f (ix3 v p o) - avg n f (ix1 o)) (root n f (ix1 o)) * ga (ix1 o) + be (ix1 o)) 0 := by
  unfold act
  rw [Elem.max_at, ValueIdx.broadcastInDim_scalar_apply, Elem.zero_at, Elem.add_at, Elem.mul_at, Elem.div_at, dev_at, row3_at, row3_at, row3_at]

theorem cnt_at (n : IVec S16384 32) (v : Fin 16384) : cnt n (ix1 v) = ∑ p : Fin 32, mask n (ix2 v p) := by
  unfold cnt; pointwise

theorem pool_at (n : IVec S16384 32) (r : FVec Ideal S16384x32x128 .f32) (v : Fin 16384) (o : Fin 128) :
    pool n r (ix2 v o) = if 0 < cnt n (ix1 v)
      then Ideal.div (∑ p : Fin 32, r (ix3 v p o) * mask n (ix2 v p)) (max (cnt n (ix1 v)) 1) else 0 := by
  unfold pool; simp only [id]; pointwise [mask3_at]

end Cert.ReferenceIdeal.Value
-- ==== Proof.RefReal.lean ====
/-
  The reference's result at finite arguments: the pooling of the normalised layer, in real numbers.
-/
module

public import proofs.«01_k».proof.Proof.Lift
public import proofs.«01_k».proof.Proof.Counts
public import proofs.«01_k».proof.Proof.RefValue

@[expose] public section

noncomputable section

namespace Cert.ReferenceIdeal.Value

open Cert.ReferenceIdeal
open Idealize.ShloMosaic
open Cert.Counts (held slot)
open Cert.Lift

variable {x : FVec Ideal S16384x32x128 .f32} {n : IVec S16384 32} {W : FVec Ideal S128x128 .f32} {b ga be : FVec Ideal S128 .f32}
variable {xr : Fin 16384 → Fin 32 → Fin 128 → ℝ} {wr : Fin 128 → Fin 128 → ℝ} {br gr er : Fin 128 → ℝ} {s : Fin 16384 → Fin 32 → ℝ}
variable (hx : ∀ v p k, s v p ≠ 0 → x (ix3 v p k) = ((xr v p k : ℝ) : EReal)) (hw : ∀ o k, W (ix2 o k) = ((wr o k : ℝ) : EReal))
  (hb : ∀ o, b (ix1 o) = ((br o : ℝ) : EReal)) (hg : ∀ o, ga (ix1 o) = ((gr o : ℝ) : EReal)) (ht : ∀ o, be (ix1 o) = ((er o : ℝ) : EReal))
  (hs : ∀ v p, s v p = slot (n (ix1 v)) p)

include hs in
theorem mask_real (v : Fin 16384) (p : Fin 32) : mask n (ix2 v p) = ((s v p : ℝ) : EReal) := by
  rw [mask_at, Counts.slot_bit, hs]

include hs in
theorem num_real : ∑ v : Fin 16384, ∑ p : Fin 32, mask n (ix2 v p) = ((Moments.num s : ℝ) : EReal) :=
  sum_real fun v => sum_real fun p => mask_real hs v p

include hx hw hb in
theorem lin_real (v : Fin 16384) (p : Fin 32) (o : Fin 128) (hv : s v p ≠ 0) :
    lin x W b (ix3 v p o) = ((Moments.lin xr (wr o) (br o) v p : ℝ) : EReal) := by
  have h : ∑ k : Fin 128, x (ix3 v p k) * W (ix2 o k) = ((∑ k : Fin 128, xr v p k * wr o k : ℝ) : EReal) :=
    sum_real fun k => by rw [hx v p k hv, hw, EReal.coe_mul]
  rw [lin_at, h, hb, ← EReal.coe_add]
  rfl

include hs in
/-- A mean of features that are real at the valid points is their real mean. -/
theorem avg_real (hN : Moments.num s ≠ 0) (f : FVec Ideal S16384x32x128 .f32) (o : Fin 128) (g : Fin 16384 → Fin 32 → ℝ)
    (hf : ∀ v p, s v p ≠ 0 → f (ix3 v p o) = ((g v p : ℝ) : EReal)) : avg n f (ix1 o) = ((Moments.avg s g : ℝ) : EReal) := by
  have h : ∑ v : Fin 16384, ∑ p : Fin 32, f (ix3 v p o) * mask n (ix2 v p) = ((∑ v : Fin 16384, ∑ p : Fin 32, g v p * s v p : ℝ) : EReal) :=
    sum_real fun v => sum_real fun p => by rw [mask_real hs]; exact masked_real (hf v p)
  rw [avg_at, h, num_real hs, div_real _ _ hN]
  rfl

include hx hw hb hs

theorem mean_real (hN : Moments.num s ≠ 0) (o : Fin 128) :
    avg n (lin x W b) (ix1 o) = ((Moments.avg s (Moments.lin xr (wr o) (br o)) : ℝ) : EReal) :=
  avg_real hs hN _ o _ fun v p hv => lin_real hx hw hb v p o hv

theorem var_real (hN : Moments.num s ≠ 0) (o : Fin 128) :
    avg n (sq (dev n (lin x W b))) (ix1 o) = ((Moments.var xr s (wr o) (br o) : ℝ) : EReal) :=
  avg_real hs hN _ o _ fun v p hv => by
    unfold sq
    rw [Elem.mul_at, dev_at, mean_real hx hw hb hs hN, lin_real hx hw hb v p o hv, ← EReal.coe_sub, ← EReal.coe_mul]

variable {e : ℝ} (he : 0 < e) (hE : Elem.eps = ((e : ℝ) : EReal)) (hN : Moments.num s ≠ 0)
include he hE hN

theorem root_real (o : Fin 128) : root n (lin x W b) (ix1 o) = ((Real.sqrt (Moments.var xr s (wr o) (br o) + e) : ℝ) : EReal) := by
  have hv : 0 ≤ Moments.var xr s (wr o) (br o) := Moments.var_nonneg _ _ _ _ fun v p => by rw [hs]; exact Counts.slot_nonneg _ _
  rw [root_at, var_real hx hw hb hs hN, hE, ← EReal.coe_add, sqrt_real _ (by linarith)]

include hg ht

theorem act_real (v : Fin 16384) (p : Fin 32) (o : Fin 128) (hp : s v p ≠ 0) :
    act n (lin x W b) ga be (ix3 v p o) = ((Moments.act xr s (wr o) (br o) (gr o) (er o) e v p : ℝ) : EReal) := by
  have hv : 0 ≤ Moments.var xr s (wr o) (br o) := Moments.var_nonneg _ _ _ _ fun v p => by rw [hs]; exact Counts.slot_nonneg _ _
  have hr : Real.sqrt (Moments.var xr s (wr o) (br o) + e) ≠ 0 := (Real.sqrt_pos.2 (by linarith)).ne'
  rw [act_at, lin_real hx hw hb v p o hp, mean_real hx hw hb hs hN, root_real hx hw hb hs he hE hN, hg, ht, ← EReal.coe_sub, div_real _ _ hr,
    ← EReal.coe_mul, ← EReal.coe_add, max_zero]
  rfl

/-- A voxel that holds a point. -/
theorem pool_real (v : Fin 16384) (o : Fin 128) (hv : 0 < ∑ p, s v p) :
    pool n (act n (lin x W b) ga be) (ix2 v o)
      = (((∑ p, Moments.act xr s (wr o) (br o) (gr o) (er o) e v p * s v p) / max (∑ p, s v p) 1 : ℝ) : EReal) := by
  have hc : cnt n (ix1 v) = ((∑ p, s v p : ℝ) : EReal) := by
    rw [cnt_at]; exact sum_real fun p => mask_real hs v p
  have hf : ∑ p : Fin 32, act n (lin x W b) ga be (ix3 v p o) * mask n (ix2 v p)
      = ((∑ p, Moments.act xr s (wr o) (br o) (gr o) (er o) e v p * s v p : ℝ) : EReal) :=
    sum_real fun p => by rw [mask_real hs]; exact masked_real (act_real hx hw hb hg ht hs he hE hN v p o)
  have h0 : (0 : EReal) < ((∑ p, s v p : ℝ) : EReal) := by
    rw [← EReal.coe_zero]; exact EReal.coe_lt_coe_iff.2 hv
  have hm : max (∑ p, s v p) 1 ≠ 0 := (lt_of_lt_of_le hv (le_max_left _ _)).ne'
  rw [pool_at, hc, if_pos h0, hf, max_one, div_real _ _ hm]

omit hx hw hb hg ht he hE hN in
/-- A voxel that holds none. -/
theorem pool_empty (r : FVec Ideal S16384x32x128 .f32) (v : Fin 16384) (o : Fin 128) (hv : ∑ p, s v p = 0) : pool n r (ix2 v o) = 0 := by
  have hc : cnt n (ix1 v) = ((∑ p, s v p : ℝ) : EReal) := by
    rw [cnt_at]; exact sum_real fun p => mask_real hs v p
  rw [pool_at, hc, hv, EReal.coe_zero, if_neg (lt_irrefl _)]

end Cert.ReferenceIdeal.Value
-- ==== Proof.Equation.lean ====
/-
  The equation: at finite arguments the kernel's output array is the reference's.
-/
module

public import proofs.«01_k».proof.Proof.KernelReal
public import proofs.«01_k».proof.Proof.RefReal

@[expose] public section

noncomputable section

namespace Cert.Equation

open Idealize.ShloMosaic
open Cert.KernelIdeal (nD τ sig)
open Cert.KernelIdeal.Entry Cert.KernelIdeal.Value
open Cert.Counts (held)

variable {m : (ℓ : Loc nD τ sig) → Buf (Elt Ideal) ℓ} {c : Dev nD}
variable {xr : Fin 16384 → Fin 32 → Fin 128 → ℝ} {wr : Fin 128 → Fin 128 → ℝ} {br gr er : Fin 128 → ℝ}
variable (F : Finite m c xr wr br gr er)
include F

/-- A voxel that holds a point makes the number of points nonzero. -/
theorem num_ne_zero (v : Fin 16384) (hv : 1 ≤ held (n m c (ix1 v))) : Moments.num (val m c) ≠ 0 := by
  have h : ∑ p, val m c v p ≤ Moments.num (val m c) :=
    Finset.single_le_sum (f := fun u => ∑ p, val m c u p) (fun u _ => Finset.sum_nonneg fun p _ => val_nonneg u p) (Finset.mem_univ v)
  rw [← held_real F v] at h
  linarith

theorem at_index (v : Fin 16384) (o : Fin 128) :
    KernelIdeal.Pool.out m c v o
      = ReferenceIdeal.Value.pool (n m c) (ReferenceIdeal.Value.act (n m c) (ReferenceIdeal.Value.lin (x m c) (W m c) (b m c)) (ga m c) (be m c)) (ix2 v o) := by
  obtain ⟨e, he, hE⟩ := Elem.eps_pos
  have hs : ∀ v p, val m c v p = Counts.slot (n m c (ix1 v)) p := fun _ _ => rfl
  rcases Counts.held_zero_or _ (F.n v) with h0 | h1
  · have h : ∑ p, val m c v p = 0 := (held_real F v).symm.trans h0
    rw [out_empty v o h0, ReferenceIdeal.Value.pool_empty hs _ v o h]
  · have h : 0 < ∑ p, val m c v p := by rw [← held_real F v]; linarith
    have hN := num_ne_zero F v h1
    rw [out_real F he hE hN v o h1, ReferenceIdeal.Value.pool_real (s := val m c) F.x F.w F.b F.ga F.be hs he hE hN v o h]

theorem arrays :
    KernelIdeal.Pool.outArr m c
      = ReferenceIdeal.Value.pool (n m c) (ReferenceIdeal.Value.act (n m c) (ReferenceIdeal.Value.lin (x m c) (W m c) (b m c)) (ga m c) (be m c)) := by
  funext i
  have hi : i = ix2 (i 0) (i 1) := by funext k; fin_cases k <;> rfl
  exact (at_index F (i 0) (i 1)).trans (congrArg _ hi.symm)

end Cert.Equation
-- ==== Proof.Value.lean ====
/-
  The value claim: from arguments that agree and are finite, the two programs end with the same result array.
-/
module

public import proofs.«01_k».proof.Defs
public import proofs.«01_k».proof.Proof.Pre
public import proofs.«01_k».proof.Proof.Equation
public import proofs.«01_k».proof.Proof.Run
public import proofs.«01_k».proof.Proof.PoolArray
public import proofs.«01_k».proof.Proof.Gen.ReferenceIdeal.Run

@[expose] public section

noncomputable section

namespace Cert.Value

open Idealize.ShloMosaic Idealize.ShloMosaic.TcCoe Idealize.SL.Sem
open Cert.KernelIdeal (nD τ sig)
open Cert.KernelIdeal.Entry

/-- The precondition, as real contents of the kernel's arguments. -/
theorem finite (m : (ℓ : Loc nD τ sig) → Buf (Elt Ideal) ℓ) (h : Cert.Pre_KernelIdeal_finite_inputs m) (c : Dev nD) :
    KernelIdeal.Value.Finite m c (fun v p k => (x m c (ix3 v p k) : EReal).toReal) (fun o k => (W m c (ix2 o k) : EReal).toReal)
      (fun o => (b m c (ix1 o) : EReal).toReal) (fun o => (ga m c (ix1 o) : EReal).toReal) (fun o => (be m c (ix1 o) : EReal).toReal) := by
  obtain ⟨h0, h1, h2, h3, h4, h5⟩ := Pre.read _ _ _ _ _ _ (h c)
  exact ⟨h0, fun _ _ => h2 _, fun _ => h3 _, fun _ => h4 _, fun _ => h5 _, fun _ => h1 _⟩

theorem algebraic : Cert.algebraic_KernelIdeal_ReferenceIdeal_pre_finite_inputs := fun m g m' g' hpre hargs =>
  ⟨fun c => KernelIdeal.Pool.outArr m c,
    (θ_run Cert.KernelIdeal.defs _ _).mono (fun _ h c => ⟨(h.1 c).1.trans (KernelIdeal.Pool.result m c), (h.1 c).2⟩)
      (Cert.KernelIdeal.Run.run (F := Ideal) m g),
    (θ_run Cert.ReferenceIdeal.defs _ _).mono
      (fun _ h c => by
        obtain ⟨a0, a1, a2, a3, a4, a5⟩ := hargs c
        have hv := ReferenceIdeal.Value.out_eq m' c (x m c) (n m c) (W m c) (b m c) (ga m c) (be m c) a0 a1 a2 a3 a4 a5
        exact ⟨(h c).1.trans (hv.trans (Equation.arrays (finite m hpre c)).symm), (h c).2⟩)
      (Cert.ReferenceIdeal.Value.run (F := Ideal) m' g')⟩

end Cert.Value
-- ==== Proof.lean ====
/-
  The certificate: each claim from the module that proves it.

    quiescent_Kernel, quiescent_KernelIdeal — the run of the three calls (`Proof/Run.lean`), at either float instance.
    quiescent_ReferenceIdeal — the reference's generated run; it declares no semaphore.
    preserves_Kernel_KernelIdeal — nothing was rewritten.
    algebraic_KernelIdeal_ReferenceIdeal_pre_finite_inputs — `Proof/Value.lean`.
-/
module

public import proofs.«01_k».proof.Defs
public import proofs.«01_k».proof.Proof.Run
public import proofs.«01_k».proof.Proof.Value
public import proofs.«01_k».proof.Proof.Gen.Own.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

namespace Cert.Proof

open Idealize.ShloMosaic Idealize.ShloMosaic.TcCoe Idealize.SL.Sem

theorem frame_kernel : Cert.quiescent_Kernel := fun m g _ =>
  (θ_run Cert.Kernel.defs _ _).mono (fun _ h => ⟨fun c => (h.1 c).2, h.2⟩) (Cert.Kernel.Run.run (F := Bits) m g)

theorem frame_ideal : Cert.quiescent_KernelIdeal := fun m g _ =>
  (θ_run Cert.KernelIdeal.defs _ _).mono (fun _ h => ⟨fun c => (h.1 c).2, h.2⟩) (Cert.KernelIdeal.Run.run (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre.facts,
    Cert.Proof.frame_kernel, Cert.Proof.frame_ideal, fun m g _ => Cert.Proof.frame_ideal m g trivial,
    Cert.Proof.frame_reference, fun m g _ => Cert.Proof.frame_reference m g trivial, trivial, Cert.Value.algebraic⟩

end Cert.Proof
